-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def algebraic_KernelIdeal_ReferenceIdeal_on_embeddings [hKernelIdeal : Cert.KernelIdeal.Facts] [hReferenceIdeal : Cert.ReferenceIdeal.Facts] [hOn_embeddings : Cert.On_embeddings.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 256]⟩ : Shape).Idx, (Cert.On_embeddings.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v4_0) i = v0 c i)
          ∧ (∀ i : (⟨2, ![4096, 4]⟩ : Shape).Idx, (Cert.On_embeddings.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 i = 1#1 → r.2.mem ((c.tc : Thread Cert.KernelIdeal.nD Cert.KernelIdeal.τ).loc Cert.KernelIdeal.main_v5) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 256]⟩ : Shape).Idx, (Cert.On_embeddings.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v21) i = v0 c i)
          ∧ (∀ i : (⟨2, ![4096, 4]⟩ : Shape).Idx, (Cert.On_embeddings.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 i = 1#1 → r.2.mem ((c.tc : Thread Cert.ReferenceIdeal.nD Cert.ReferenceIdeal.τ).loc Cert.ReferenceIdeal.main_v84) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_args : Cert.Pre_finite_args.Facts) (hOn_embeddings : Cert.On_embeddings.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
    ∧ algebraic_KernelIdeal_ReferenceIdeal_on_embeddings (hKernelIdeal := hKernelIdeal) (hReferenceIdeal := hReferenceIdeal) (hOn_embeddings := hOn_embeddings)
-- ==== On_embeddings.lean ====
abbrev S4096x768 : Shape := ⟨2, ![4096, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S8192x64 : Shape := ⟨2, ![8192, 64]⟩
abbrev S_ : Shape := ⟨0, ![]⟩
abbrev S4096x256 : Shape := ⟨2, ![4096, 256]⟩
abbrev S4096x4 : Shape := ⟨2, ![4096, 4]⟩

class Facts : Prop where
  bcast_S_S4096x256 : S_.BroadcastsInDim S4096x256 (![] : Fin 0 → Fin S4096x256.rank)
  bcast_S_S4096x4 : S_.BroadcastsInDim S4096x4 (![] : Fin 0 → Fin S4096x4.rank)

variable [Facts]

def fn {F : FTy → Type} [FloatOps F] (main_arg0 : FVec F S4096x768 .f32) (main_arg1 : FVec F S768x512 .f32) (main_arg2 : FVec F S512 .f32) (main_arg3 : FVec F S512x256 .f32) (main_arg4 : FVec F S256 .f32) (main_arg5 : FVec F S256x256 .f32) (main_arg6 : FVec F S256 .f32) (main_arg7 : FVec F S8192x64 .f32) : IVec S4096x256 1 × IVec S4096x4 1 :=
  let main_c : IVec S_ 1 := constantI S_ 1 1#1
  let main_v0 : IVec S4096x256 1 := broadcastInDim S4096x256 ![] bcast_S_S4096x256 main_c
  let main_c_0 : IVec S_ 1 := constantI S_ 1 0#1
  let main_v1 : IVec S4096x4 1 := broadcastInDim S4096x4 ![] bcast_S_S4096x4 main_c_0
  (main_v0, main_v1)
-- ==== Pre_finite_args.lean ====
abbrev S4096x768 : Shape := ⟨2, ![4096, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S8192x64 : Shape := ⟨2, ![8192, 64]⟩
abbrev S_ : Shape := ⟨0, ![]⟩

class Facts : Prop where
  bcast_S_S4096x768 : S_.BroadcastsInDim S4096x768 (![] : Fin 0 → Fin S4096x768.rank)
  bcast_S_S768x512 : S_.BroadcastsInDim S768x512 (![] : Fin 0 → Fin S768x512.rank)
  bcast_S_S512 : S_.BroadcastsInDim S512 (![] : Fin 0 → Fin S512.rank)
  bcast_S_S512x256 : S_.BroadcastsInDim S512x256 (![] : Fin 0 → Fin S512x256.rank)
  bcast_S_S256 : S_.BroadcastsInDim S256 (![] : Fin 0 → Fin S256.rank)
  bcast_S_S256x256 : S_.BroadcastsInDim S256x256 (![] : Fin 0 → Fin S256x256.rank)
  bcast_S_S8192x64 : S_.BroadcastsInDim S8192x64 (![] : Fin 0 → Fin S8192x64.rank)

variable [Facts]

def fn_part1 {F : FTy → Type} [FloatOps F] (main_arg6 : FVec F S256 .f32) (main_arg7 : FVec F S8192x64 .f32) (main_v2 : IVec S4096x768 1) (main_v5 : IVec S768x512 1) (main_v8 : IVec S512 1) (main_v11 : IVec S512x256 1) (main_v14 : IVec S256 1) (main_v17 : IVec S256x256 1) : IVec S4096x768 1 × IVec S768x512 1 × IVec S512 1 × IVec S512x256 1 × IVec S256 1 × IVec S256x256 1 × IVec S256 1 × IVec S8192x64 1 :=
  let main_v18 : FVec F S256 .f32 := Host.absf main_arg6
  let main_cst_5 : FVec F S_ .f32 := constant S_ .f32 0x7F800000#32
  let main_v19 : FVec F S256 .f32 := broadcastInDim S256 ![] bcast_S_S256 main_cst_5
  let main_v20 : IVec S256 1 := cmpf .olt main_v18 main_v19
  let main_v21 : FVec F S8192x64 .f32 := Host.absf main_arg7
  let main_cst_6 : FVec F S_ .f32 := constant S_ .f32 0x7F800000#32
  let main_v22 : FVec F S8192x64 .f32 := broadcastInDim S8192x64 ![] bcast_S_S8192x64 main_cst_6
  let main_v23 : IVec S8192x64 1 := cmpf .olt main_v21 main_v22
  (main_v2, main_v5, main_v8, main_v11, main_v14, main_v17, main_v20, main_v23)

def fn {F : FTy → Type} [FloatOps F] (main_arg0 : FVec F S4096x768 .f32) (main_arg1 : FVec F S768x512 .f32) (main_arg2 : FVec F S512 .f32) (main_arg3 : FVec F S512x256 .f32) (main_arg4 : FVec F S256 .f32) (main_arg5 : FVec F S256x256 .f32) (main_arg6 : FVec F S256 .f32) (main_arg7 : FVec F S8192x64 .f32) : IVec S4096x768 1 × IVec S768x512 1 × IVec S512 1 × IVec S512x256 1 × IVec S256 1 × IVec S256x256 1 × IVec S256 1 × IVec S8192x64 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_v12 : FVec F S256 .f32 := Host.absf main_arg4
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S256x256 .f32 := Host.absf main_arg5
  let main_cst_4 : FVec F S_ .f32 := constant S_ .f32 0x7F800000#32
  let main_v16 : FVec F S256x256 .f32 := broadcastInDim S256x256 ![] bcast_S_S256x256 main_cst_4
  let main_v17 : IVec S256x256 1 := cmpf .olt main_v15 main_v16
  fn_part1 (F := F) main_arg6 main_arg7 main_v2 main_v5 main_v8 main_v11 main_v14 main_v17
-- ==== Kernel.lean ====
abbrev S4096x768 : Shape := ⟨2, ![4096, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S8192x64 : Shape := ⟨2, ![8192, 64]⟩
abbrev S64x8192 : Shape := ⟨2, ![64, 8192]⟩
abbrev S1x512 : Shape := ⟨2, ![1, 512]⟩
abbrev S1x256 : Shape := ⟨2, ![1, 256]⟩
abbrev S4096x256 : Shape := ⟨2, ![4096, 256]⟩
abbrev S4x4096 : Shape := ⟨2, ![4, 4096]⟩
abbrev S1024x768 : Shape := ⟨2, ![1024, 768]⟩
abbrev S1024x256 : Shape := ⟨2, ![1024, 256]⟩
abbrev S4x1024 : Shape := ⟨2, ![4, 1024]⟩
abbrev S1024x512 : Shape := ⟨2, ![1024, 512]⟩
abbrev S8192 : Shape := ⟨1, ![8192]⟩
abbrev S1x8192 : Shape := ⟨2, ![1, 8192]⟩
abbrev S1024x128 : Shape := ⟨2, ![1024, 128]⟩
abbrev S1024x64 : Shape := ⟨2, ![1024, 64]⟩
abbrev S1024x8192 : Shape := ⟨2, ![1024, 8192]⟩
abbrev S128x128 : Shape := ⟨2, ![128, 128]⟩
abbrev S1x128 : Shape := ⟨2, ![1, 128]⟩
abbrev S1024 : Shape := ⟨1, ![1024]⟩
abbrev S1024x1 : Shape := ⟨2, ![1024, 1]⟩
abbrev S1x1024 : Shape := ⟨2, ![1, 1024]⟩
abbrev S4096x4 : Shape := ⟨2, ![4096, 4]⟩

abbrev nBuf : Space → Nat
  | .hbm => 15
  | .vmem => 13
  | .smem => 0
  | _ => 0

abbrev bufTy : (tb : Table) → Fin (tcTables nBuf tb) → BufTy
  | .hbm, ⟨0, _⟩ => ⟨S4096x768, .f32⟩
  | .hbm, ⟨1, _⟩ => ⟨S768x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S8192x64, .f32⟩
  | .hbm, ⟨8, _⟩ => ⟨S64x8192, .f32⟩
  | .hbm, ⟨9, _⟩ => ⟨S1x512, .f32⟩
  | .hbm, ⟨10, _⟩ => ⟨S1x256, .f32⟩
  | .hbm, ⟨11, _⟩ => ⟨S1x256, .f32⟩
  | .hbm, ⟨12, _⟩ => ⟨S4096x256, .f32⟩
  | .hbm, ⟨13, _⟩ => ⟨S4x4096, .i32⟩
  | .hbm, ⟨14, _⟩ => ⟨S4096x4, .i32⟩
  | .local _ .vmem, ⟨0, _⟩ => ⟨S1024x768, .f32⟩
  | .local _ .vmem, ⟨1, _⟩ => ⟨S1024x768, .f32⟩
  | .local _ .vmem, ⟨2, _⟩ => ⟨S768x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S64x8192, .f32⟩
  | .local _ .vmem, ⟨9, _⟩ => ⟨S1024x256, .f32⟩
  | .local _ .vmem, ⟨10, _⟩ => ⟨S1024x256, .f32⟩
  | .local _ .vmem, ⟨11, _⟩ => ⟨S4x1024, .i32⟩
  | .local _ .vmem, ⟨12, _⟩ => ⟨S4x1024, .i32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1024 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4096x768 : Shape := ⟨2, ![4096, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S8192x64 : Shape := ⟨2, ![8192, 64]⟩
abbrev S4096x512 : Shape := ⟨2, ![4096, 512]⟩
abbrev S1x512 : Shape := ⟨2, ![1, 512]⟩
abbrev S_ : Shape := ⟨0, ![]⟩
abbrev S4096x256 : Shape := ⟨2, ![4096, 256]⟩
abbrev S1x256 : Shape := ⟨2, ![1, 256]⟩
abbrev S8192 : Shape := ⟨1, ![8192]⟩
abbrev S4096x64 : Shape := ⟨2, ![4096, 64]⟩
abbrev S4096 : Shape := ⟨1, ![4096]⟩
abbrev S4096x1 : Shape := ⟨2, ![4096, 1]⟩
abbrev S1x8192 : Shape := ⟨2, ![1, 8192]⟩
abbrev S4096x8192 : Shape := ⟨2, ![4096, 8192]⟩
abbrev S64x8192 : Shape := ⟨2, ![64, 8192]⟩
abbrev S4096x4 : Shape := ⟨2, ![4096, 4]⟩

abbrev nBuf : Space → Nat
  | .hbm => 122
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S768x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S8192x64, .f32⟩
  | .hbm, ⟨8, _⟩ => ⟨S4096x512, .f32⟩
  | .hbm, ⟨9, _⟩ => ⟨S1x512, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .i1⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x256, .f32⟩
  | .hbm, ⟨20, _⟩ => ⟨S1x256, .f32⟩
  | .hbm, ⟨21, _⟩ => ⟨S4096x256, .f32⟩
  | .hbm, ⟨22, _⟩ => ⟨S4096x256, .f32⟩
  | .hbm, ⟨23, _⟩ => ⟨S_, .f32⟩
  | .hbm, ⟨24, _⟩ => ⟨S4096x256, .f32⟩
  | .hbm, ⟨25, _⟩ => ⟨S4096x256, .i1⟩
  | .hbm, ⟨26, _⟩ => ⟨S_, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S1x256, .f32⟩
  | .hbm, ⟨32, _⟩ => ⟨S4096x256, .f32⟩
  | .hbm, ⟨33, _⟩ => ⟨S4096x256, .f32⟩
  | .hbm, ⟨34, _⟩ => ⟨S8192x64, .f32⟩
  | .hbm, ⟨35, _⟩ => ⟨S_, .f32⟩
  | .hbm, ⟨36, _⟩ => ⟨S8192, .f32⟩
  | .hbm, ⟨37, _⟩ => ⟨S4096x64, .f32⟩
  | .hbm, ⟨38, _⟩ => ⟨S4096x64, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S1x8192, .f32⟩
  | .hbm, ⟨43, _⟩ => ⟨S4096x8192, .f32⟩
  | .hbm, ⟨44, _⟩ => ⟨S4096x8192, .f32⟩
  | .hbm, ⟨45, _⟩ => ⟨S4096x8192, .f32⟩
  | .hbm, ⟨46, _⟩ => ⟨S64x8192, .f32⟩
  | .hbm, ⟨47, _⟩ => ⟨S4096x8192, .f32⟩
  | .hbm, ⟨48, _⟩ => ⟨S_, .f32⟩
  | .hbm, ⟨49, _⟩ => ⟨S4096x8192, .f32⟩
  | .hbm, ⟨50, _⟩ => ⟨S4096x8192, .f32⟩
  | .hbm, ⟨51, _⟩ => ⟨S4096x8192, .f32⟩
  | .hbm, ⟨52, _⟩ => ⟨S4096x8192, .i32⟩
  | .hbm, ⟨53, _⟩ => ⟨S_, .f32⟩
  | .hbm, ⟨54, _⟩ => ⟨S_, .i32⟩
  | .hbm, ⟨55, _⟩ => ⟨S4096, .f32⟩
  | .hbm, ⟨56, _⟩ => ⟨S4096, .i32⟩
  | .hbm, ⟨57, _⟩ => ⟨S4096x64, .f32⟩
  | .hbm, ⟨58, _⟩ => ⟨S4096x64, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S1x8192, .f32⟩
  | .hbm, ⟨63, _⟩ => ⟨S4096x8192, .f32⟩
  | .hbm, ⟨64, _⟩ => ⟨S4096x8192, .f32⟩
  | .hbm, ⟨65, _⟩ => ⟨S4096x8192, .f32⟩
  | .hbm, ⟨66, _⟩ => ⟨S64x8192, .f32⟩
  | .hbm, ⟨67, _⟩ => ⟨S4096x8192, .f32⟩
  | .hbm, ⟨68, _⟩ => ⟨S_, .f32⟩
  | .hbm, ⟨69, _⟩ => ⟨S4096x8192, .f32⟩
  | .hbm, ⟨70, _⟩ => ⟨S4096x8192, .f32⟩
  | .hbm, ⟨71, _⟩ => ⟨S4096x8192, .f32⟩
  | .hbm, ⟨72, _⟩ => ⟨S4096x8192, .i32⟩
  | .hbm, ⟨73, _⟩ => ⟨S_, .f32⟩
  | .hbm, ⟨74, _⟩ => ⟨S_, .i32⟩
  | .hbm, ⟨75, _⟩ => ⟨S4096, .f32⟩
  | .hbm, ⟨76, _⟩ => ⟨S4096, .i32⟩
  | .hbm, ⟨77, _⟩ => ⟨S4096x64, .f32⟩
  | .hbm, ⟨78, _⟩ => ⟨S4096x64, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S1x8192, .f32⟩
  | .hbm, ⟨83, _⟩ => ⟨S4096x8192, .f32⟩
  | .hbm, ⟨84, _⟩ => ⟨S4096x8192, .f32⟩
  | .hbm, ⟨85, _⟩ => ⟨S4096x8192, .f32⟩
  | .hbm, ⟨86, _⟩ => ⟨S64x8192, .f32⟩
  | .hbm, ⟨87, _⟩ => ⟨S4096x8192, .f32⟩
  | .hbm, ⟨88, _⟩ => ⟨S_, .f32⟩
  | .hbm, ⟨89, _⟩ => ⟨S4096x8192, .f32⟩
  | .hbm, ⟨90, _⟩ => ⟨S4096x8192, .f32⟩
  | .hbm, ⟨91, _⟩ => ⟨S4096x8192, .f32⟩
  | .hbm, ⟨92, _⟩ => ⟨S4096x8192, .i32⟩
  | .hbm, ⟨93, _⟩ => ⟨S_, .f32⟩
  | .hbm, ⟨94, _⟩ => ⟨S_, .i32⟩
  | .hbm, ⟨95, _⟩ => ⟨S4096, .f32⟩
  | .hbm, ⟨96, _⟩ => ⟨S4096, .i32⟩
  | .hbm, ⟨97, _⟩ => ⟨S4096x64, .f32⟩
  | .hbm, ⟨98, _⟩ => ⟨S4096x64, .f32⟩
  | .hbm, ⟨99, _⟩ => ⟨S_, .f32⟩
  | .hbm, ⟨100, _⟩ => ⟨S4096, .f32⟩
  | .hbm, ⟨101, _⟩ => ⟨S4096x1, .f32⟩
  | .hbm, ⟨102, _⟩ => ⟨S1x8192, .f32⟩
  | .hbm, ⟨103, _⟩ => ⟨S4096x8192, .f32⟩
  | .hbm, ⟨104, _⟩ => ⟨S4096x8192, .f32⟩
  | .hbm, ⟨105, _⟩ => ⟨S4096x8192, .f32⟩
  | .hbm, ⟨106, _⟩ => ⟨S64x8192, .f32⟩
  | .hbm, ⟨107, _⟩ => ⟨S4096x8192, .f32⟩
  | .hbm, ⟨108, _⟩ => ⟨S_, .f32⟩
  | .hbm, ⟨109, _⟩ => ⟨S4096x8192, .f32⟩
  | .hbm, ⟨110, _⟩ => ⟨S4096x8192, .f32⟩
  | .hbm, ⟨111, _⟩ => ⟨S4096x8192, .f32⟩
  | .hbm, ⟨112, _⟩ => ⟨S4096x8192, .i32⟩
  | .hbm, ⟨113, _⟩ => ⟨S_, .f32⟩
  | .hbm, ⟨114, _⟩ => ⟨S_, .i32⟩
  | .hbm, ⟨115, _⟩ => ⟨S4096, .f32⟩
  | .hbm, ⟨116, _⟩ => ⟨S4096, .i32⟩
  | .hbm, ⟨117, _⟩ => ⟨S4096x1, .i32⟩
  | .hbm, ⟨118, _⟩ => ⟨S4096x1, .i32⟩
  | .hbm, ⟨119, _⟩ => ⟨S4096x1, .i32⟩
  | .hbm, ⟨120, _⟩ => ⟨S4096x1, .i32⟩
  | .hbm, ⟨121, _⟩ => ⟨S4096x4, .i32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call2_v0 : Ref sig .tc := ⟨.hbm, 52, rfl⟩
abbrev main_call2_cst : Ref sig .tc := ⟨.hbm, 53, rfl⟩
abbrev main_call2_c : Ref sig .tc := ⟨.hbm, 54, rfl⟩
abbrev main_call2_v1_0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call3_v0 : Ref sig .tc := ⟨.hbm, 72, rfl⟩
abbrev main_call3_cst : Ref sig .tc := ⟨.hbm, 73, rfl⟩
abbrev main_call3_c : Ref sig .tc := ⟨.hbm, 74, rfl⟩
abbrev main_call3_v1_0 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_9 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call4_v0 : Ref sig .tc := ⟨.hbm, 92, rfl⟩
abbrev main_call4_cst : Ref sig .tc := ⟨.hbm, 93, rfl⟩
abbrev main_call4_c : Ref sig .tc := ⟨.hbm, 94, rfl⟩
abbrev main_call4_v1_0 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_10 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_11 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_call5_v0 : Ref sig .tc := ⟨.hbm, 112, rfl⟩
abbrev main_call5_cst : Ref sig .tc := ⟨.hbm, 113, rfl⟩
abbrev main_call5_c : Ref sig .tc := ⟨.hbm, 114, rfl⟩
abbrev main_call5_v1_0 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩

abbrev nD : Nat := 1
abbrev τ : Topo := Topo.v7x

variable {F : FTy → Type} [FloatOps F]
-- ==== Proof.Vq.Consts.lean ====
/- The real numbers that the programs' float constants denote, and the conversions between small natural numbers, 32-bit
   words and extended reals. -/
module

public import Idealize.ShloMosaic.Lib.Pointwise
public import Idealize.ShloMosaic.Lib.IdealHost

@[expose] public section

set_option maxRecDepth 16384

noncomputable section

namespace Cert.Vq

open Idealize.ShloMosaic

/-- The f32 word of the natural number `n` (`0 < n < 2 ^ 24`): the exponent is the position of its leading bit. -/
def word (n : ℕ) : BitVec 32 := BitVec.ofNat 32 ((127 + n.log2) * 2 ^ 23 + (n - 2 ^ n.log2) * 2 ^ (23 - n.log2))

/-- The word of a natural number below 64 denotes it. -/
theorem ofBits_word (n : ℕ) (h0 : 0 < n) (h : n < 64) : Ideal.ofBits .f32 (word n) = ((n : ℕ) : EReal) := by
  rw [show ((n : ℕ) : EReal) = (((n : ℕ) : ℝ) : EReal) by norm_cast]
  interval_cases n <;> (simp [word, Nat.log2_def, Ideal.ofBits, Ideal.ieee, -EReal.coe_mul]; try norm_num)

/-- The constants' words: plus infinity, 128, 16384, 2 and −2; the word of 0.2 denotes some real number. -/
theorem ofBits_top : Ideal.ofBits .f32 0x7F800000#32 = ⊤ := by
  simp [Ideal.ofBits, Ideal.ieee]

theorem ofBits_128 : Ideal.ofBits .f32 0x43000000#32 = 128 := by
  rw [show (128 : EReal) = ((128 : ℝ) : EReal) by norm_cast]
  simp [Ideal.ofBits, Ideal.ieee, -EReal.coe_mul]; norm_num

theorem ofBits_16384 : Ideal.ofBits .f32 0x46800000#32 = 16384 := by
  rw [show (16384 : EReal) = ((16384 : ℝ) : EReal) by norm_cast]
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_neg2 : Ideal.ofBits .f32 0xC0000000#32 = ((-2 : ℝ) : EReal) := by
  simp [Ideal.ofBits, Ideal.ieee, -EReal.coe_mul, -EReal.coe_neg]; norm_num

theorem ofBits_fifth : ∃ r : ℝ, Ideal.ofBits .f32 0x3E4CCCCD#32 = (r : EReal) := by
  simp [Ideal.ofBits, Ideal.ieee, -EReal.coe_mul]

/-- The signed reading of a small natural number's word is the number. -/
theorem toInt_ofNat (n : ℕ) (h : n < 8192) : (BitVec.ofNat 32 n).toInt = (n : ℤ) := by
  rw [BitVec.toInt_eq_toNat_of_lt (by rw [BitVec.toNat_ofNat]; omega), BitVec.toNat_ofNat]
  omega

/-- Converting a small natural number to a 32-bit integer gives its word. -/
theorem fptosi_nat (n : ℕ) (h : n < 8192) : FloatOps.fptosi (F := Ideal) (φ := .f32) 32 ((n : ℕ) : EReal) = BitVec.ofNat 32 n := by
  rw [show ((n : ℕ) : EReal) = (((n : ℕ) : ℝ) : EReal) by norm_cast]
  rw [show FloatOps.fptosi (F := Ideal) (φ := .f32) 32 (((n : ℕ) : ℝ) : EReal)
    = BitVec.ofInt 32 (Ideal.toIntClamped (-(2 ^ (32 - 1) : Nat)) ((2 ^ (32 - 1) : Nat) - 1) (((n : ℕ) : ℝ) : EReal)) from rfl,
    Ideal.toIntClamped_coe, if_pos (Nat.cast_nonneg n), Int.floor_natCast, min_eq_right (by norm_num; omega),
    max_eq_right (by norm_num), BitVec.ofInt_natCast]

/-- The leaky rectifier on one value: `h` where `h ≥ 0`, else `0.2 * h`. -/
def leak (h : EReal) : EReal := if 0 ≤ h then h else Ideal.ofBits .f32 0x3E4CCCCD#32 * h

end Cert.Vq

end
-- ==== Proof.Vq.Fold.lean ====
/- The kernel's unrolled search over the code vectors, folded back: for each block of 128 rows it runs over the 64 chunks of
   128 code vectors, keeping per row and lane the smallest score so far and the chunk that gave it; then each row takes the
   smallest score of its lanes and the smallest position that reaches it. The body's 2048 written-out steps are these
   functions at the four splits. -/
module

public import proofs.«01_k».proof.Proof.Gen.KernelIdeal.Frame
public import proofs.«01_k».proof.Proof.Vq.Consts

@[expose] public section

set_option maxRecDepth 16384

noncomputable section

namespace Cert.Vq.Ker

open Cert.KernelIdeal Cert.KernelIdeal.Gen
open Idealize.ShloMosaic

variable {F : FTy → Type} [FloatOps F]

theorem slices_raw (rb c : ℕ) (hr : rb < 8) (hc : c < 64) : S1024x8192.Slices ![128 * rb, 128 * c] S128x128 := by
  refine ⟨rfl, fun a => ?_⟩
  match a with
  | ⟨0, _⟩ => exact (by omega : 128 * rb + 128 ≤ 1024)
  | ⟨1, _⟩ => exact (by omega : 128 * c + 128 ≤ 8192)

theorem slices_csq (c : ℕ) (hc : c < 64) : S1x8192.Slices ![0, 128 * c] S1x128 := by
  refine ⟨rfl, fun a => ?_⟩
  match a with
  | ⟨0, _⟩ => exact (by omega : 0 + 1 ≤ 1)
  | ⟨1, _⟩ => exact (by omega : 128 * c + 128 ≤ 8192)

/-- The scores of row block `rb` against chunk `c` of the code vectors. -/
def chunk (csq : FVec F S1x8192 .f32) (raw : FVec F S1024x8192 .f32) (rb : ℕ) (hr : rb < 8) (c : ℕ) (hc : c < 64) :
    FVec F S128x128 .f32 :=
  addf (extractStridedSlice S128x128 ![128 * rb, 128 * c] raw (slices_raw rb c hr hc))
    (broadcastTo S128x128 (extractStridedSlice S1x128 ![0, 128 * c] csq (slices_csq c hc)) broadcasts_S1x128_S128x128)

/-- Per row and lane, the smallest score over the chunks `0 … n`. -/
def bestV (csq : FVec F S1x8192 .f32) (raw : FVec F S1024x8192 .f32) (rb : ℕ) (hr : rb < 8) :
    (n : ℕ) → n < 64 → FVec F S128x128 .f32
  | 0, h => chunk csq raw rb hr 0 h
  | n + 1, h =>
    select (cmpf .olt (chunk csq raw rb hr (n + 1) h) (bestV csq raw rb hr n (Nat.lt_of_succ_lt h)))
      (chunk csq raw rb hr (n + 1) h) (bestV csq raw rb hr n (Nat.lt_of_succ_lt h))

/-- Per row and lane, the first chunk among `0 … n` that gives it, as a float. -/
def bestC (csq : FVec F S1x8192 .f32) (raw : FVec F S1024x8192 .f32) (rb : ℕ) (hr : rb < 8) :
    (n : ℕ) → n < 64 → FVec F S128x128 .f32
  | 0, _ => broadcast S128x128 (Scalar.ofBits .f32 0x00000000#32)
  | n + 1, h =>
    select (cmpf .olt (chunk csq raw rb hr (n + 1) h) (bestV csq raw rb hr n (Nat.lt_of_succ_lt h)))
      (broadcast S128x128 (Scalar.ofBits .f32 (word (n + 1)))) (bestC csq raw rb hr n (Nat.lt_of_succ_lt h))

/-- The eight row blocks' smallest scores, one below the other. -/
def lanesV (csq : FVec F S1x8192 .f32) (raw : FVec F S1024x8192 .f32) : FVec F S1024x128 .f32 :=
  concatenate S1024x128 0
    [⟨S128x128, bestV csq raw 0 (by decide) 63 (by decide)⟩, ⟨S128x128, bestV csq raw 1 (by decide) 63 (by decide)⟩,
      ⟨S128x128, bestV csq raw 2 (by decide) 63 (by decide)⟩, ⟨S128x128, bestV csq raw 3 (by decide) 63 (by decide)⟩,
      ⟨S128x128, bestV csq raw 4 (by decide) 63 (by decide)⟩, ⟨S128x128, bestV csq raw 5 (by decide) 63 (by decide)⟩,
      ⟨S128x128, bestV csq raw 6 (by decide) 63 (by decide)⟩, ⟨S128x128, bestV csq raw 7 (by decide) 63 (by decide)⟩]
    concatenates_S128x128_S128x128_S128x128_S128x128_S128x128_S128x128_S128x128_S128x128_S1024x128_d0

/-- The eight row blocks' chunk numbers, one below the other. -/
def lanesC (csq : FVec F S1x8192 .f32) (raw : FVec F S1024x8192 .f32) : FVec F S1024x128 .f32 :=
  concatenate S1024x128 0
    [⟨S128x128, bestC csq raw 0 (by decide) 63 (by decide)⟩, ⟨S128x128, bestC csq raw 1 (by decide) 63 (by decide)⟩,
      ⟨S128x128, bestC csq raw 2 (by decide) 63 (by decide)⟩, ⟨S128x128, bestC csq raw 3 (by decide) 63 (by decide)⟩,
      ⟨S128x128, bestC csq raw 4 (by decide) 63 (by decide)⟩, ⟨S128x128, bestC csq raw 5 (by decide) 63 (by decide)⟩,
      ⟨S128x128, bestC csq raw 6 (by decide) 63 (by decide)⟩, ⟨S128x128, bestC csq raw 7 (by decide) 63 (by decide)⟩]
    concatenates_S128x128_S128x128_S128x128_S128x128_S128x128_S128x128_S128x128_S128x128_S1024x128_d0

/-- The smallest entry of each row. -/
def rowMin (x : FVec F S1024x128 .f32) : FVec F S1024 .f32 :=
  multiReduction .minimumf [1] S1024 x 0x7F800000#32 reduces_S1024x128_S1024 (.inl rfl) rfl

/-- What each lane offers for its row's index: its position where its value is the row's smallest, else 16384. -/
def offer (v c : FVec F S1024x128 .f32) : FVec F S1024x128 .f32 :=
  select
    (cmpf .oeq v (broadcastTo S1024x128 (shapeCast S1024x1 (rowMin v) shapeCasts_S1024_S1024x1) broadcasts_S1024x1_S1024x128))
    (addf (mulf c (broadcast S1024x128 (Scalar.ofBits .f32 0x43000000#32))) k0_pay7)
    (broadcast S1024x128 (Scalar.ofBits .f32 0x46800000#32))

/-- One split's index, as a float, for each of the block's 1024 rows. -/
def pick (csq : FVec F S1x8192 .f32) (raw : FVec F S1024x8192 .f32) : FVec F S1024 .f32 :=
  rowMin (offer (lanesV csq raw) (lanesC csq raw))

/-- The scores' first part at one split: the split's 64 columns of the embeddings times the code vectors scaled by −2. -/
def raw (z : FVec F S1024x256 .f32) (ctm2 : FVec F S64x8192 .f32) (o : ℕ) (h : S1024x256.Slices ![0, o] S1024x64) :
    FVec F S1024x8192 .f32 :=
  matmul dot_S1024x64_S64x8192_S1024x8192_1_0_0_1_n_n none (extractStridedSlice S1024x64 ![0, o] z h) ctm2
    (constant S1024x8192 .f32 0x00000000#32)

/-- One split's indices from the block's embeddings and the transposed code vectors. -/
def quant (z : FVec F S1024x256 .f32) (ct : FVec F S64x8192 .f32) (o : ℕ) (h : S1024x256.Slices ![0, o] S1024x64) :
    FVec F S1024 .f32 :=
  pick (k0_pay5 (mulf ct ct)) (raw z (k0_pay6 ct) o h)

end Cert.Vq.Ker

end
-- ==== Proof.Vq.Body.lean ====
/- What one grid point leaves in the two output blocks: the embeddings of its 1024 rows, and the four splits' indices of
   those rows, one split per row of the block. -/
module

public import proofs.«01_k».proof.Proof.Vq.Fold

@[expose] public section

set_option maxRecDepth 16384

noncomputable section

namespace Cert.Vq.Ker

open Cert.KernelIdeal Cert.KernelIdeal.Gen
open Idealize.ShloMosaic

variable {F : FTy → Type} [FloatOps F]

theorem slices_split (o : ℕ) (h : o + 64 ≤ 256) : S1024x256.Slices ![0, o] S1024x64 := by
  refine ⟨rfl, fun a => ?_⟩
  match a with
  | ⟨0, _⟩ => exact (by omega : 0 + 1024 ≤ 1024)
  | ⟨1, _⟩ => exact h

/-- The index block: the four splits' indices as words, one row per split. -/
def indexBlock (z : FVec F S1024x256 .f32) (ct : FVec F S64x8192 .f32) : IVec S4x1024 32 :=
  k0_pay1 (quant z ct 0 (slices_split 0 (by decide))) (quant z ct 64 (slices_split 64 (by decide)))
    (quant z ct 128 (slices_split 128 (by decide))) (quant z ct 192 (slices_split 192 (by decide)))

set_option maxHeartbeats 0 in
/-- The body's written-out steps leave the folded search's index block. -/
theorem out9_steps (x0 : Vec F S1024x768 .f32) (x1 : Vec F S768x512 .f32) (x2 : Vec F S1x512 .f32) (x3 : Vec F S512x256 .f32)
    (x4 : Vec F S1x256 .f32) (x5 : Vec F S256x256 .f32) (x6 : Vec F S1x256 .f32) (x7 : Vec F S64x8192 .f32) :
    out0_9 x0 x1 x2 x3 x4 x5 x6 x7
      = View.canon [⟨r0_8, indexBlock (k0_pay2 (View.ld x0 r0_0) (View.ld x1 r0_1) (View.ld x2 r0_2) (View.ld x3 r0_3)
          (View.ld x4 r0_4) (View.ld x5 r0_5) (View.ld x6 r0_4)) (k0_pay3 (View.ld x7 r0_7))⟩] := rfl

end Cert.Vq.Ker

end
-- ==== Proof.Vq.KerEmb.lean ====
/- The kernel's three layers on one block of 1024 rows, and each read at an element on the extended reals. -/
module

public import proofs.«01_k».proof.Proof.Vq.Fold

@[expose] public section

set_option maxRecDepth 16384

noncomputable section

namespace Cert.Vq.Ker

open Cert.KernelIdeal Cert.KernelIdeal.Gen
open Idealize.ShloMosaic

variable {F : FTy → Type} [FloatOps F]

/-- The first affine layer on a block. -/
def layer1 (x : FVec F S1024x768 .f32) (W1 : FVec F S768x512 .f32) (b1 : FVec F S1x512 .f32) : FVec F S1024x512 .f32 :=
  addf (matmul dot_S1024x768_S768x512_S1024x512_1_0_0_1_n_n none x W1 (constant S1024x512 .f32 0x00000000#32))
    (broadcastTo S1024x512 (shapeCast S1x512 b1 shapeCasts_S1x512_S1x512) broadcasts_S1x512_S1024x512)

/-- The leaky rectifier on a block of the first hidden layer. -/
def leaky1 (h : FVec F S1024x512 .f32) : FVec F S1024x512 .f32 :=
  select (cmpf .oge h (broadcast S1024x512 (Scalar.ofBits .f32 0x00000000#32))) h
    (mulf (broadcast S1024x512 (Scalar.ofBits .f32 0x3E4CCCCD#32)) h)

/-- The second affine layer on a block. -/
def layer2 (h : FVec F S1024x512 .f32) (W2 : FVec F S512x256 .f32) (b2 : FVec F S1x256 .f32) : FVec F S1024x256 .f32 :=
  addf (matmul dot_S1024x512_S512x256_S1024x256_1_0_0_1_n_n none h W2 (constant S1024x256 .f32 0x00000000#32))
    (broadcastTo S1024x256 (shapeCast S1x256 b2 shapeCasts_S1x256_S1x256) broadcasts_S1x256_S1024x256)

/-- The leaky rectifier on a block of the second hidden layer. -/
def leaky2 (h : FVec F S1024x256 .f32) : FVec F S1024x256 .f32 :=
  select (cmpf .oge h (broadcast S1024x256 (Scalar.ofBits .f32 0x00000000#32))) h
    (mulf (broadcast S1024x256 (Scalar.ofBits .f32 0x3E4CCCCD#32)) h)

/-- The third affine layer on a block. -/
def layer3 (h : FVec F S1024x256 .f32) (W3 : FVec F S256x256 .f32) (b3 : FVec F S1x256 .f32) : FVec F S1024x256 .f32 :=
  addf (matmul dot_S1024x256_S256x256_S1024x256_1_0_0_1_n_n none h W3 (constant S1024x256 .f32 0x00000000#32))
    (broadcastTo S1024x256 (shapeCast S1x256 b3 shapeCasts_S1x256_S1x256) broadcasts_S1x256_S1024x256)

/-- The body's embedding block is the three layers. -/
theorem pay2_eq (x : FVec F S1024x768 .f32) (W1 : FVec F S768x512 .f32) (b1 : FVec F S1x512 .f32) (W2 : FVec F S512x256 .f32)
    (b2 : FVec F S1x256 .f32) (W3 : FVec F S256x256 .f32) (b3 : FVec F S1x256 .f32) :
    k0_pay2 x W1 b1 W2 b2 W3 b3 = layer3 (leaky2 (layer2 (leaky1 (layer1 x W1 b1)) W2 b2)) W3 b3 := rfl

theorem layer1_at (x : FVec Ideal S1024x768 .f32) (W : FVec Ideal S768x512 .f32) (b : FVec Ideal S1x512 .f32)
    (i : Fin 1024) (n : Fin 512) :
    layer1 x W b (ix2 i n) = (∑ k : Fin 768, x (ix2 i k) * W (ix2 k n)) + b (ix2 0 n) := by
  pointwise [layer1]

theorem layer2_at (x : FVec Ideal S1024x512 .f32) (W : FVec Ideal S512x256 .f32) (b : FVec Ideal S1x256 .f32)
    (i : Fin 1024) (n : Fin 256) :
    layer2 x W b (ix2 i n) = (∑ k : Fin 512, x (ix2 i k) * W (ix2 k n)) + b (ix2 0 n) := by
  pointwise [layer2]

theorem layer3_at (x : FVec Ideal S1024x256 .f32) (W : FVec Ideal S256x256 .f32) (b : FVec Ideal S1x256 .f32)
    (i : Fin 1024) (n : Fin 256) :
    layer3 x W b (ix2 i n) = (∑ k : Fin 256, x (ix2 i k) * W (ix2 k n)) + b (ix2 0 n) := by
  pointwise [layer3]

theorem leaky1_at (h : FVec Ideal S1024x512 .f32) (i : Fin 1024) (n : Fin 512) : leaky1 h (ix2 i n) = leak (h (ix2 i n)) := by
  pointwise [leaky1, leak]

theorem leaky2_at (h : FVec Ideal S1024x256 .f32) (i : Fin 1024) (n : Fin 256) : leaky2 h (ix2 i n) = leak (h (ix2 i n)) := by
  pointwise [leaky2, leak]

end Cert.Vq.Ker

end
-- ==== Proof.Vq.FirstMin.lean ====
/- The position of the first minimum of a finite family of extended reals, and the two ways in which it is found here:
   a left-to-right scan that keeps the earlier of two equal values, and the scan of every lane of a 64 × 128 arrangement
   followed by two minima across the lanes. -/
module

public import Mathlib.Data.EReal.Operations
public import Mathlib.Algebra.Order.Group.Unbundled.Basic

@[expose] public section

namespace Cert.Vq

/-- `k` is the first position below `n` at which `f` is smallest. -/
structure FirstMin (n : ℕ) (f : ℕ → EReal) (k : ℕ) : Prop where
  lt : k < n
  le : ∀ i < n, f k ≤ f i
  first : ∀ i < k, f k < f i

/-- There is at most one first minimum. -/
theorem FirstMin.unique {n : ℕ} {f : ℕ → EReal} {a b : ℕ} (ha : FirstMin n f a) (hb : FirstMin n f b) : a = b := by
  rcases lt_trichotomy a b with h | h | h
  · exact absurd (hb.first a h) (not_lt.mpr (ha.le b hb.lt))
  · exact h
  · exact absurd (ha.first b h) (not_lt.mpr (hb.le a ha.lt))

/-- Two families ordered alike have their first minimum at the same place. -/
theorem FirstMin.congr {n : ℕ} {f g : ℕ → EReal} {k : ℕ} (h : ∀ i < n, ∀ j < n, f i < f j ↔ g i < g j)
    (hf : FirstMin n f k) : FirstMin n g k where
  lt := hf.lt
  le i hi := not_lt.mp fun hlt => absurd ((h i hi k hf.lt).mpr hlt) (not_lt.mpr (hf.le i hi))
  first i hi := (h k hf.lt i (hi.trans hf.lt)).mp (hf.first i hi)

/-- The scan's state after position `n`: the smallest value so far and the position that set it. -/
noncomputable def scan (f : ℕ → EReal) : ℕ → EReal × ℕ
  | 0 => (f 0, 0)
  | n + 1 => if f (n + 1) < (scan f n).1 then (f (n + 1), n + 1) else scan f n

/-- After position `n` the scan holds the first minimum among the positions `0 … n`. -/
theorem scan_spec (f : ℕ → EReal) (n : ℕ) : (scan f n).1 = f (scan f n).2 ∧ FirstMin (n + 1) f (scan f n).2 := by
  induction n with
  | zero =>
    refine ⟨rfl, Nat.one_pos, fun i hi => ?_, fun i hi => absurd hi (Nat.not_lt_zero i)⟩
    obtain rfl : i = 0 := by omega
    exact le_refl _
  | succ n ih =>
    obtain ⟨hv, hm⟩ := ih
    by_cases h : f (n + 1) < (scan f n).1
    · have hs : scan f (n + 1) = (f (n + 1), n + 1) := by rw [scan, if_pos h]
      rw [hs]
      refine ⟨rfl, Nat.lt_succ_self _, fun i hi => ?_, fun i hi => ?_⟩
      · rcases Nat.lt_succ_iff_lt_or_eq.mp hi with hi' | rfl
        · exact (h.le.trans hv.le).trans (hm.le i hi')
        · exact le_refl _
      · exact (h.trans_le hv.le).trans_le (hm.le i hi)
    · have hs : scan f (n + 1) = scan f n := by rw [scan, if_neg h]
      rw [hs]
      refine ⟨hv, Nat.lt_succ_of_lt hm.lt, fun i hi => ?_, hm.first⟩
      rcases Nat.lt_succ_iff_lt_or_eq.mp hi with hi' | rfl
      · exact hm.le i hi'
      · exact hv.symm.le.trans (not_lt.mp h)

/-- Lane by lane: each of 128 lanes scans its 64 positions `128 * c + l`; the smallest lane value is `m`; among the lanes
    that reach `m` the smallest position is taken (a lane that does not reach it offers `far`). That is the first minimum
    of all 8192 positions. -/
theorem lanes_first_min (s : ℕ → EReal) (m idx far : EReal) (c1 : ℕ → ℕ) (v1 : ℕ → EReal)
    (hc : ∀ l < 128, FirstMin 64 (fun c => s (128 * c + l)) (c1 l)) (hv : ∀ l < 128, v1 l = s (128 * c1 l + l))
    (hmle : ∀ l < 128, m ≤ v1 l) (hm : ∃ l < 128, m = v1 l)
    (hfar : ((8192 : ℕ) : EReal) ≤ far)
    (hile : ∀ l < 128, idx ≤ if v1 l = m then ((128 * c1 l + l : ℕ) : EReal) else far)
    (hi : ∃ l < 128, idx = if v1 l = m then ((128 * c1 l + l : ℕ) : EReal) else far) :
    ∃ k : ℕ, idx = (k : EReal) ∧ FirstMin 8192 s k := by
  obtain ⟨l0, hl0, hm0⟩ := hm
  obtain ⟨l, hl, hil⟩ := hi
  have hub : idx ≤ ((128 * c1 l0 + l0 : ℕ) : EReal) := by
    have := hile l0 hl0; rwa [if_pos hm0.symm] at this
  have hc0 := (hc l0 hl0).lt
  have hlt : idx < far := (hub.trans_lt (by exact_mod_cast (by omega : 128 * c1 l0 + l0 < 8192))).trans_le hfar
  have hvl : v1 l = m := by
    by_contra hne
    rw [if_neg hne] at hil
    exact absurd hil hlt.ne
  rw [if_pos hvl] at hil
  have hcl := (hc l hl).lt
  have hsK : s (128 * c1 l + l) = m := (hv l hl).symm.trans hvl
  have hall : ∀ i < 8192, v1 (i % 128) ≤ s i := by
    intro i hi
    have hl' : i % 128 < 128 := Nat.mod_lt _ (by omega)
    have := (hc (i % 128) hl').le (i / 128) (by omega)
    rw [hv _ hl']
    have e : 128 * (i / 128) + i % 128 = i := Nat.div_add_mod i 128
    simpa only [e] using this
  refine ⟨128 * c1 l + l, hil, by omega, fun i hi => ?_, fun i hi => ?_⟩
  · rw [hsK]; exact (hmle _ (Nat.mod_lt _ (by omega))).trans (hall i hi)
  · rw [hsK]
    by_contra hnot
    have hle : s i ≤ m := not_lt.mp hnot
    have hl' : i % 128 < 128 := Nat.mod_lt _ (by omega)
    have hi' : i < 8192 := by omega
    have e : 128 * (i / 128) + i % 128 = i := Nat.div_add_mod i 128
    have hvm : v1 (i % 128) = m := le_antisymm ((hall i hi').trans hle) (hmle _ hl')
    have hcle : c1 (i % 128) ≤ i / 128 := by
      by_contra hgt
      have := (hc (i % 128) hl').first (i / 128) (by omega)
      simp only [e] at this
      rw [← hv _ hl', hvm] at this
      exact absurd this (not_lt.mpr hle)
    have := hile _ hl'
    rw [if_pos hvm, hil] at this
    have : 128 * c1 l + l ≤ 128 * c1 (i % 128) + i % 128 := by exact_mod_cast this
    omega

end Cert.Vq

end
-- ==== Proof.Vq.Pick.lean ====
/- What one split's search finds, on the extended reals: for each row of the block the position of its first smallest
   score. -/
module

public import proofs.«01_k».proof.Proof.Vq.Fold
public import proofs.«01_k».proof.Proof.Vq.FirstMin

@[expose] public section

set_option maxRecDepth 16384

noncomputable section

namespace Cert.Vq.Ker

open Cert.KernelIdeal Cert.KernelIdeal.Gen
open Idealize.ShloMosaic

theorem pay1_at (a b c d : FVec Ideal S1024 .f32) (j : Fin 4) (i : Fin 1024) :
    k0_pay1 a b c d (ix2 j i) = FloatOps.fptosi 32 ((![a, b, c, d] j) (ix1 i)) := by
  pointwise [k0_pay1]
  fin_cases j <;> simp

theorem pay7_at (i : Fin 1024) (l : Fin 128) : (k0_pay7 (F := Ideal)) (ix2 i l) = ((l : ℕ) : EReal) := by
  pointwise [k0_pay7]
  show ((((BitVec.ofNat 32 ↑l).toInt : ℝ)) : EReal) = _
  rw [toInt_ofNat _ (by omega)]
  norm_cast

/-- Eight blocks of 128 rows, one below the other. -/
def stack (f : (rb : ℕ) → rb < 8 → FVec Ideal S128x128 .f32) : FVec Ideal S1024x128 .f32 :=
  concatenate S1024x128 0
    [⟨S128x128, f 0 (by decide)⟩, ⟨S128x128, f 1 (by decide)⟩, ⟨S128x128, f 2 (by decide)⟩, ⟨S128x128, f 3 (by decide)⟩,
      ⟨S128x128, f 4 (by decide)⟩, ⟨S128x128, f 5 (by decide)⟩, ⟨S128x128, f 6 (by decide)⟩, ⟨S128x128, f 7 (by decide)⟩]
    concatenates_S128x128_S128x128_S128x128_S128x128_S128x128_S128x128_S128x128_S128x128_S1024x128_d0

theorem stack_at (f : (rb : ℕ) → rb < 8 → FVec Ideal S128x128 .f32) (i : Fin 1024) (l : Fin 128) :
    stack f (ix2 i l) = f (i / 128) (by omega) (ix2 ⟨i % 128, by omega⟩ l) := by
  have same : ∀ (b : ℕ) (hb : b < 8) (a : ℕ) (ha : a < 128), b = i / 128 → a = i % 128 →
      f b hb (ix2 ⟨a, ha⟩ l) = f (i / 128) (by omega) (ix2 ⟨i % 128, by omega⟩ l) := by
    rintro b hb a ha rfl rfl; rfl
  have hi := i.isLt
  pointwise [stack]
  split_ifs <;> exact same _ _ _ _ (by omega) (by omega)

theorem lanesV_eq (csq : FVec Ideal S1x8192 .f32) (raw : FVec Ideal S1024x8192 .f32) :
    lanesV csq raw = stack fun rb h => bestV csq raw rb h 63 (by decide) := rfl

theorem lanesC_eq (csq : FVec Ideal S1x8192 .f32) (raw : FVec Ideal S1024x8192 .f32) :
    lanesC csq raw = stack fun rb h => bestC csq raw rb h 63 (by decide) := rfl

theorem rowMin_at (x : FVec Ideal S1024x128 .f32) (i : Fin 1024) :
    rowMin x (ix1 i) = Finset.univ.fold min ⊤ fun l : Fin 128 => x (ix2 i l) := by
  pointwise [rowMin]
  rw [ofBits_top]

theorem rowMin_le (x : FVec Ideal S1024x128 .f32) (i : Fin 1024) (l : Fin 128) : rowMin x (ix1 i) ≤ x (ix2 i l) := by
  rw [rowMin_at]
  exact Finset.fold_min_le _ |>.mpr (.inr ⟨l, Finset.mem_univ l, le_refl _⟩)

theorem rowMin_mem (x : FVec Ideal S1024x128 .f32) (i : Fin 1024) : ∃ l, rowMin x (ix1 i) = x (ix2 i l) := by
  have h := (rowMin_at x i).symm.le
  rcases (Finset.fold_min_le _).mp h with h | ⟨l, _, h⟩
  · refine ⟨0, le_antisymm (rowMin_le x i 0) ?_⟩
    exact le_top.trans h
  · exact ⟨l, le_antisymm (rowMin_le x i l) h⟩

theorem offer_at (v c : FVec Ideal S1024x128 .f32) (i : Fin 1024) (l : Fin 128) :
    offer v c (ix2 i l) = if v (ix2 i l) = rowMin v (ix1 i) then c (ix2 i l) * 128 + ((l : ℕ) : EReal) else 16384 := by
  pointwise [offer]
  rw [ofBits_128, ofBits_16384, pay7_at]

theorem chunk_at (csq : FVec Ideal S1x8192 .f32) (raw : FVec Ideal S1024x8192 .f32) (rb : ℕ) (hr : rb < 8) (c : ℕ) (hc : c < 64)
    (a l : Fin 128) :
    chunk csq raw rb hr c hc (ix2 a l)
      = raw (ix2 ⟨128 * rb + a, by omega⟩ ⟨128 * c + l, by omega⟩) + csq (ix2 0 ⟨128 * c + l, by omega⟩) := by
  pointwise [chunk]

/-- The kernel's score of row `i` of the block against code vector `k`; 0 past the last code vector. -/
def score (csq : FVec Ideal S1x8192 .f32) (raw : FVec Ideal S1024x8192 .f32) (i : Fin 1024) (k : ℕ) : EReal :=
  if h : k < 8192 then raw (ix2 i ⟨k, h⟩) + csq (ix2 0 ⟨k, h⟩) else 0

theorem chunk_score (csq : FVec Ideal S1x8192 .f32) (raw : FVec Ideal S1024x8192 .f32) (i : Fin 1024) (l : Fin 128) (c : ℕ)
    (hc : c < 64) :
    chunk csq raw (i / 128) (by omega) c hc (ix2 ⟨i % 128, by omega⟩ l) = score csq raw i (128 * c + l) := by
  have e : (⟨128 * (i / 128) + i % 128, by omega⟩ : Fin 1024) = i := Fin.ext (Nat.div_add_mod _ _)
  rw [chunk_at, score, dif_pos (by omega)]
  simp only [e]

/-- The scan's selection at one element. -/
theorem keep_at (s v x y : FVec Ideal S128x128 .f32) (j : S128x128.Idx) :
    select (cmpf .olt s v) x y j = if s j < v j then x j else y j := by
  pointwise

theorem bestV_succ_at (csq : FVec Ideal S1x8192 .f32) (raw : FVec Ideal S1024x8192 .f32) (rb : ℕ) (hr : rb < 8) (n : ℕ)
    (h : n + 1 < 64) (a l : Fin 128) :
    bestV csq raw rb hr (n + 1) h (ix2 a l)
      = if chunk csq raw rb hr (n + 1) h (ix2 a l) < bestV csq raw rb hr n (Nat.lt_of_succ_lt h) (ix2 a l)
        then chunk csq raw rb hr (n + 1) h (ix2 a l) else bestV csq raw rb hr n (Nat.lt_of_succ_lt h) (ix2 a l) := by
  rw [bestV]
  exact keep_at _ _ _ _ _

theorem broadcast_bits (w : BitVec 32) (j : S128x128.Idx) :
    broadcast S128x128 (Scalar.ofBits (F := Ideal) .f32 w) j = Ideal.ofBits .f32 w := rfl

theorem bestC_succ_at (csq : FVec Ideal S1x8192 .f32) (raw : FVec Ideal S1024x8192 .f32) (rb : ℕ) (hr : rb < 8) (n : ℕ)
    (h : n + 1 < 64) (a l : Fin 128) :
    bestC csq raw rb hr (n + 1) h (ix2 a l)
      = if chunk csq raw rb hr (n + 1) h (ix2 a l) < bestV csq raw rb hr n (Nat.lt_of_succ_lt h) (ix2 a l)
        then ((n + 1 : ℕ) : EReal) else bestC csq raw rb hr n (Nat.lt_of_succ_lt h) (ix2 a l) := by
  rw [bestC, keep_at, broadcast_bits, ofBits_word (n + 1) (Nat.succ_pos n) h]
theorem bestC_zero_at (csq : FVec Ideal S1x8192 .f32) (raw : FVec Ideal S1024x8192 .f32) (rb : ℕ) (hr : rb < 8)
    (h : 0 < 64) (a l : Fin 128) : bestC csq raw rb hr 0 h (ix2 a l) = 0 := by
  rw [bestC, broadcast_bits]
  exact Ideal.ofBits_zero_f32

/-- After chunk `n`, a row and lane hold the scan's state over the chunks `0 … n`. -/
theorem best_scan (csq : FVec Ideal S1x8192 .f32) (raw : FVec Ideal S1024x8192 .f32) (rb : ℕ) (hr : rb < 8) (a l : Fin 128)
    (f : ℕ → EReal) (hf : ∀ (c : ℕ) (hc : c < 64), chunk csq raw rb hr c hc (ix2 a l) = f c) (n : ℕ) :
    ∀ h : n < 64, bestV csq raw rb hr n h (ix2 a l) = (scan f n).1
      ∧ bestC csq raw rb hr n h (ix2 a l) = (((scan f n).2 : ℕ) : EReal) := by
  induction n with
  | zero =>
    intro h
    rw [bestC_zero_at, bestV, hf, scan]
    exact ⟨rfl, Nat.cast_zero.symm⟩
  | succ n ih =>
    intro h
    obtain ⟨h1, h2⟩ := ih (Nat.lt_of_succ_lt h)
    rw [bestV_succ_at, bestC_succ_at, scan, h1, h2, hf]
    by_cases hlt : f (n + 1) < (scan f n).1
    · rw [if_pos hlt, if_pos hlt, if_pos hlt]; exact ⟨rfl, rfl⟩
    · rw [if_neg hlt, if_neg hlt, if_neg hlt]; exact ⟨rfl, rfl⟩

/-- One split's index, per row: the position of the row's first smallest score, as an extended real. -/
theorem pick_first (csq : FVec Ideal S1x8192 .f32) (raw : FVec Ideal S1024x8192 .f32) (i : Fin 1024) :
    ∃ k : ℕ, pick csq raw (ix1 i) = (k : EReal) ∧ FirstMin 8192 (score csq raw i) k := by
  set v := lanesV csq raw with hv
  set c := lanesC csq raw with hc
  have hvl : ∀ l : Fin 128, v (ix2 i l) = (scan (fun c => score csq raw i (128 * c + l)) 63).1 := fun l => by
    rw [hv, lanesV_eq, stack_at]; exact (best_scan csq raw _ _ _ l _ (chunk_score csq raw i l) 63 (by decide)).1
  have hcl : ∀ l : Fin 128, c (ix2 i l) = (((scan (fun c => score csq raw i (128 * c + l)) 63).2 : ℕ) : EReal) := fun l => by
    rw [hc, lanesC_eq, stack_at]; exact (best_scan csq raw _ _ _ l _ (chunk_score csq raw i l) 63 (by decide)).2
  have ho : ∀ l : Fin 128, offer v c (ix2 i l)
      = if (scan (fun c => score csq raw i (128 * c + l)) 63).1 = rowMin v (ix1 i)
        then ((128 * (scan (fun c => score csq raw i (128 * c + l)) 63).2 + l : ℕ) : EReal) else 16384 := fun l => by
    rw [offer_at, hvl, hcl, mul_comm]; norm_cast
  refine lanes_first_min (score csq raw i) (rowMin v (ix1 i)) (pick csq raw (ix1 i)) 16384
    (fun l => (scan (fun c => score csq raw i (128 * c + l)) 63).2) (fun l => (scan (fun c => score csq raw i (128 * c + l)) 63).1)
    (fun l _ => (scan_spec _ 63).2) (fun l _ => (scan_spec _ 63).1) (fun l hl => ?_) ?_ ?_ (fun l hl => ?_) ?_
  · rw [← hvl ⟨l, hl⟩]; exact rowMin_le v i _
  · obtain ⟨l, hl⟩ := rowMin_mem v i
    exact ⟨l, l.isLt, hl.trans (hvl l)⟩
  · exact_mod_cast (by decide : 8192 ≤ 16384)
  · rw [← ho ⟨l, hl⟩]; exact rowMin_le _ i _
  · obtain ⟨l, hl⟩ := rowMin_mem (offer v c) i
    exact ⟨l, l.isLt, hl.trans (ho l)⟩

end Cert.Vq.Ker

end
-- ==== Proof.Vq.Real.lean ====
/- Extended reals that are real numbers: closed under the operations used here, and the comparison of two scores with the
   comparison of the two distances when all entries are real. -/
module

public import proofs.«01_k».proof.Proof.Vq.Consts
public import proofs.«01_k».proof.Proof.Vq.FirstMin

@[expose] public section

noncomputable section

namespace Cert.Vq

open Idealize.ShloMosaic

/-- The extended real is a real number. -/
def Re (x : EReal) : Prop := ∃ r : ℝ, x = (r : EReal)

theorem Re.add {x y : EReal} : Re x → Re y → Re (x + y) := by
  rintro ⟨a, rfl⟩ ⟨b, rfl⟩
  exact ⟨a + b, (EReal.coe_add a b).symm⟩

theorem Re.mul {x y : EReal} : Re x → Re y → Re (x * y) := by
  rintro ⟨a, rfl⟩ ⟨b, rfl⟩
  exact ⟨a * b, (EReal.coe_mul a b).symm⟩

/-- A finite sum of reals, taken among the extended reals, is their real sum. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem Re.sum {ι : Type} (s : Finset ι) (f : ι → EReal) (h : ∀ i, Re (f i)) : Re (∑ i ∈ s, f i) := by
  choose g hg using h
  exact ⟨∑ i ∈ s, g i, by rw [← sum_coe]; exact Finset.sum_congr rfl fun i _ => hg i⟩

theorem Re.leak {x : EReal} (h : Re x) : Re (leak x) := by
  unfold Cert.Vq.leak
  split
  · exact h
  · exact Re.mul ofBits_fifth h

/-- The kernel's score of a vector against a code vector. -/
def scoreOf {n : ℕ} (v a : Fin n → EReal) : EReal :=
  (∑ q, v q * (Ideal.ofBits .f32 0xC0000000#32 * a q)) + ∑ q, a q * a q

/-- The reference's squared distance of a vector to a code vector. -/
def distOf {n : ℕ} (v a : Fin n → EReal) : EReal :=
  ((∑ q, v q * v q) + ∑ q, a q * a q) - Ideal.ofBits .f32 0x40000000#32 * ∑ q, v q * a q

theorem scoreOf_coe {n : ℕ} (v a : Fin n → ℝ) :
    scoreOf (fun q => (v q : EReal)) (fun q => (a q : EReal)) = ((∑ q, a q * a q - 2 * ∑ q, v q * a q : ℝ) : EReal) := by
  simp only [scoreOf, ofBits_neg2, ← EReal.coe_mul, sum_coe, ← EReal.coe_add]
  congr 1
  rw [Finset.mul_sum, add_comm, sub_eq_add_neg, ← Finset.sum_neg_distrib]
  congr 1
  exact Finset.sum_congr rfl fun q _ => by ring

theorem distOf_coe {n : ℕ} (v a : Fin n → ℝ) :
    distOf (fun q => (v q : EReal)) (fun q => (a q : EReal))
      = ((∑ q, v q * v q + (∑ q, a q * a q - 2 * ∑ q, v q * a q) : ℝ) : EReal) := by
  simp only [distOf, ofBits_2, ← EReal.coe_mul, sum_coe, ← EReal.coe_add, ← EReal.coe_sub]
  congr 1
  ring

/-- On reals the distance and the score differ by the vector's own squared norm, so they order the code vectors alike. -/
theorem scoreOf_lt {n : ℕ} {v a b : Fin n → EReal} (hv : ∀ q, Re (v q)) (ha : ∀ q, Re (a q)) (hb : ∀ q, Re (b q)) :
    scoreOf v a < scoreOf v b ↔ distOf v a < distOf v b := by
  choose v' hv using hv
  choose a' ha using ha
  choose b' hb using hb
  obtain rfl := funext hv
  obtain rfl := funext ha
  obtain rfl := funext hb
  rw [scoreOf_coe, scoreOf_coe, distOf_coe, distOf_coe, EReal.coe_lt_coe_iff, EReal.coe_lt_coe_iff, add_lt_add_iff_left]

/-- On reals no distance is plus infinity. -/
theorem distOf_lt_top {n : ℕ} {v a : Fin n → EReal} (hv : ∀ q, Re (v q)) (ha : ∀ q, Re (a q)) : distOf v a < ⊤ := by
  choose v' hv using hv
  choose a' ha using ha
  obtain rfl := funext hv
  obtain rfl := funext ha
  rw [distOf_coe]
  exact EReal.coe_lt_top _

end Cert.Vq

end
-- ==== Proof.Vq.Quant.lean ====
/- The kernel's index of one row at one split: the first minimum of the scores. -/
module

public import proofs.«01_k».proof.Proof.Vq.Pick
public import proofs.«01_k».proof.Proof.Vq.Real

@[expose] public section

set_option maxRecDepth 16384

noncomputable section

namespace Cert.Vq.Ker

open Cert.KernelIdeal Cert.KernelIdeal.Gen
open Idealize.ShloMosaic

theorem pay5_at (y : FVec Ideal S64x8192 .f32) (k : Fin 8192) : k0_pay5 y (ix2 0 k) = ∑ q : Fin 64, y (ix2 q k) := by
  pointwise [k0_pay5]

theorem pay6_at (y : FVec Ideal S64x8192 .f32) (q : Fin 64) (k : Fin 8192) :
    k0_pay6 y (ix2 q k) = Ideal.ofBits .f32 0xC0000000#32 * y (ix2 q k) := by
  pointwise [k0_pay6]

theorem raw_at (z : FVec Ideal S1024x256 .f32) (y : FVec Ideal S64x8192 .f32) (o : ℕ) (h : S1024x256.Slices ![0, o] S1024x64)
    (ho : o + 64 ≤ 256) (i : Fin 1024) (k : Fin 8192) :
    raw z y o h (ix2 i k) = ∑ q : Fin 64, z (ix2 i ⟨o + q, by omega⟩) * y (ix2 q k) := by
  pointwise [raw]

/-- Column `k` of the transposed code vectors; zeros past the last. -/
def code (ct : FVec Ideal S64x8192 .f32) (k : ℕ) (q : Fin 64) : EReal := if h : k < 8192 then ct (ix2 q ⟨k, h⟩) else 0

theorem mulf_self_at (ct : FVec Ideal S64x8192 .f32) (q : Fin 64) (k : Fin 8192) :
    mulf ct ct (ix2 q k) = ct (ix2 q k) * ct (ix2 q k) := rfl

/-- The index is the first minimum of the scores against the code vectors. -/
theorem quant_first (z : FVec Ideal S1024x256 .f32) (ct : FVec Ideal S64x8192 .f32) (o : ℕ)
    (h : S1024x256.Slices ![0, o] S1024x64) (ho : o + 64 ≤ 256) (i : Fin 1024) :
    ∃ k : ℕ, quant z ct o h (ix1 i) = (k : EReal)
      ∧ FirstMin 8192 (fun k => scoreOf (fun q : Fin 64 => z (ix2 i ⟨o + q, by omega⟩)) (code ct k)) k := by
  obtain ⟨k, hk, hm⟩ := pick_first (k0_pay5 (mulf ct ct)) (raw z (k0_pay6 ct) o h) i
  have hs : ∀ k < 8192, score (k0_pay5 (mulf ct ct)) (raw z (k0_pay6 ct) o h) i k
      = scoreOf (fun q : Fin 64 => z (ix2 i ⟨o + q, by omega⟩)) (code ct k) := by
    intro k hk
    rw [score, dif_pos hk, pay5_at, raw_at z (k0_pay6 ct) o h ho]
    simp only [pay6_at, mulf_self_at, scoreOf, code, dif_pos hk]
  exact ⟨k, hk, hm.congr fun a ha b hb => by rw [hs a ha, hs b hb]⟩

end Cert.Vq.Ker

end
-- ==== Proof.Vq.RefTerm.lean ====
/- What the reference program computes, as plain functions of its arguments: the embeddings, the distances of one split,
   the index column of one split, and the four columns side by side. -/
module

public import proofs.«01_k».proof.Proof.Gen.ReferenceIdeal

@[expose] public section

noncomputable section

namespace Cert.Vq.Ref

open Cert.ReferenceIdeal Cert.ReferenceIdeal.Gen
open Idealize.ShloMosaic

variable {F : FTy → Type} [FloatOps F]

/-- The leaky rectifier on the first hidden layer: `h` where `h ≥ 0`, else `0.2 * h`. -/
def leaky1 (h : FVec F S4096x512 .f32) : FVec F S4096x512 .f32 :=
  select (cmpf .oge h (broadcastInDim S4096x512 ![] bcast_S_S4096x512 (constant S_ .f32 0x00000000#32))) h
    (mulf (broadcastInDim S4096x512 ![] bcast_S_S4096x512 (constant S_ .f32 0x3E4CCCCD#32)) h)

/-- The leaky rectifier on the second hidden layer. -/
def leaky2 (h : FVec F S4096x256 .f32) : FVec F S4096x256 .f32 :=
  select (cmpf .oge h (broadcastInDim S4096x256 ![] bcast_S_S4096x256 (constant S_ .f32 0x00000000#32))) h
    (mulf (broadcastInDim S4096x256 ![] bcast_S_S4096x256 (constant S_ .f32 0x3E4CCCCD#32)) h)

/-- The first affine layer. -/
def layer1 (x : FVec F S4096x768 .f32) (W1 : FVec F S768x512 .f32) (b1 : FVec F S512 .f32) : FVec F S4096x512 .f32 :=
  addf (Host.dotGeneral dot_S4096x768_S768x512_S4096x512_1_0_0_1_n_n none x W1)
    (broadcastInDim S4096x512 ![0, 1] bcast_S1x512_S4096x512_0_1 (broadcastInDim S1x512 ![1] bcast_S512_S1x512_1 b1))

/-- The second affine layer. -/
def layer2 (h : FVec F S4096x512 .f32) (W2 : FVec F S512x256 .f32) (b2 : FVec F S256 .f32) : FVec F S4096x256 .f32 :=
  addf (Host.dotGeneral dot_S4096x512_S512x256_S4096x256_1_0_0_1_n_n none h W2)
    (broadcastInDim S4096x256 ![0, 1] bcast_S1x256_S4096x256_0_1 (broadcastInDim S1x256 ![1] bcast_S256_S1x256_1 b2))

/-- The third affine layer. -/
def layer3 (h : FVec F S4096x256 .f32) (W3 : FVec F S256x256 .f32) (b3 : FVec F S256 .f32) : FVec F S4096x256 .f32 :=
  addf (Host.dotGeneral dot_S4096x256_S256x256_S4096x256_1_0_0_1_n_n none h W3)
    (broadcastInDim S4096x256 ![0, 1] bcast_S1x256_S4096x256_0_1 (broadcastInDim S1x256 ![1] bcast_S256_S1x256_1 b3))

/-- The embeddings. -/
def emb (x : FVec F S4096x768 .f32) (W1 : FVec F S768x512 .f32) (b1 : FVec F S512 .f32) (W2 : FVec F S512x256 .f32)
    (b2 : FVec F S256 .f32) (W3 : FVec F S256x256 .f32) (b3 : FVec F S256 .f32) : FVec F S4096x256 .f32 :=
  layer3 (leaky2 (layer2 (leaky1 (layer1 x W1 b1)) W2 b2)) W3 b3

/-- The squared norms of the code vectors. -/
def codeSq (cb : FVec F S8192x64 .f32) : FVec F S8192 .f32 :=
  Host.reduceAdd (mulf cb cb) (constant S_ .f32 0x00000000#32) reducesTo_S8192x64_S8192_d1 h_S_

/-- The squared distances of one split's vectors `v` to every code vector. -/
def dist (v : FVec F S4096x64 .f32) (cb : FVec F S8192x64 .f32) : FVec F S4096x8192 .f32 :=
  subf
    (addf
      (broadcastInDim S4096x8192 ![0, 1] bcast_S4096x1_S4096x8192_0_1
        (broadcastInDim S4096x1 ![0] bcast_S4096_S4096x1_0
          (Host.reduceAdd (mulf v v) (constant S_ .f32 0x00000000#32) reducesTo_S4096x64_S4096_d1 h_S_)))
      (broadcastInDim S4096x8192 ![0, 1] bcast_S1x8192_S4096x8192_0_1
        (broadcastInDim S1x8192 ![1] bcast_S8192_S1x8192_1 (codeSq cb))))
    (mulf (broadcastInDim S4096x8192 ![] bcast_S_S4096x8192 (constant S_ .f32 0x40000000#32))
      (Host.dotGeneral dot_S4096x64_S64x8192_S4096x8192_1_0_0_1_n_n none v
        (transpose S64x8192 [1, 0] cb transposes_S8192x64_S64x8192_1_0)))

/-- The index of each row's smallest entry. -/
def argmin (d : FVec F S4096x8192 .f32) : IVec S4096 32 := fun j =>
  (Host.argReduce reducer_argmin_f32_i32 d (iotaInDim S4096x8192 32 1) (constant S_ .f32 0x7F800000#32)
    (constantI S_ 32 0#32) reducesTo_S4096x8192_S4096_d1 h_S_ j).2

/-- One split's vectors: 64 columns of the embeddings. -/
abbrev split0 (z : FVec F S4096x256 .f32) : FVec F S4096x64 .f32 := extractStridedSlice S4096x64 ![0, 0] z slices_S4096x256_S4096x64_0_0
abbrev split1 (z : FVec F S4096x256 .f32) : FVec F S4096x64 .f32 := extractStridedSlice S4096x64 ![0, 64] z slices_S4096x256_S4096x64_0_64
abbrev split2 (z : FVec F S4096x256 .f32) : FVec F S4096x64 .f32 := extractStridedSlice S4096x64 ![0, 128] z slices_S4096x256_S4096x64_0_128
abbrev split3 (z : FVec F S4096x256 .f32) : FVec F S4096x64 .f32 := extractStridedSlice S4096x64 ![0, 192] z slices_S4096x256_S4096x64_0_192

/-- A column of indices, as a one-column array. -/
abbrev col (i : IVec S4096 32) : IVec S4096x1 32 := broadcastInDim S4096x1 ![0] bcast_S4096_S4096x1_0 i

/-- Four columns side by side. -/
def beside (a b c d : IVec S4096x1 32) : IVec S4096x4 32 :=
  concatenate S4096x4 1 [⟨S4096x1, a⟩, ⟨S4096x1, b⟩, ⟨S4096x1, c⟩, ⟨S4096x1, d⟩]
    concatenates_S4096x1_S4096x1_S4096x1_S4096x1_S4096x4_d1

/-- The four splits' indices side by side. -/
def indices (z : FVec F S4096x256 .f32) (cb : FVec F S8192x64 .f32) : IVec S4096x4 32 :=
  beside (col (argmin (dist (split0 z) cb))) (col (argmin (dist (split1 z) cb))) (col (argmin (dist (split2 z) cb)))
    (col (argmin (dist (split3 z) cb)))

end Cert.Vq.Ref

end
-- ==== Proof.Vq.RefRead.lean ====
/- The reference's layers and distances read at an element on the extended reals. -/
module

public import proofs.«01_k».proof.Proof.Vq.RefTerm
public import proofs.«01_k».proof.Proof.Vq.Consts

@[expose] public section

set_option maxRecDepth 16384

noncomputable section

namespace Cert.Vq.Ref

open Cert.ReferenceIdeal Cert.ReferenceIdeal.Gen
open Idealize.ShloMosaic

theorem layer1_at (x : FVec Ideal S4096x768 .f32) (W : FVec Ideal S768x512 .f32) (b : FVec Ideal S512 .f32)
    (i : Fin 4096) (n : Fin 512) :
    layer1 x W b (ix2 i n) = (∑ k : Fin 768, x (ix2 i k) * W (ix2 k n)) + b (ix1 n) := by
  pointwise [layer1]

theorem layer2_at (x : FVec Ideal S4096x512 .f32) (W : FVec Ideal S512x256 .f32) (b : FVec Ideal S256 .f32)
    (i : Fin 4096) (n : Fin 256) :
    layer2 x W b (ix2 i n) = (∑ k : Fin 512, x (ix2 i k) * W (ix2 k n)) + b (ix1 n) := by
  pointwise [layer2]

theorem layer3_at (x : FVec Ideal S4096x256 .f32) (W : FVec Ideal S256x256 .f32) (b : FVec Ideal S256 .f32)
    (i : Fin 4096) (n : Fin 256) :
    layer3 x W b (ix2 i n) = (∑ k : Fin 256, x (ix2 i k) * W (ix2 k n)) + b (ix1 n) := by
  pointwise [layer3]

theorem leaky1_at (h : FVec Ideal S4096x512 .f32) (i : Fin 4096) (n : Fin 512) : leaky1 h (ix2 i n) = leak (h (ix2 i n)) := by
  pointwise [leaky1, leak]

theorem leaky2_at (h : FVec Ideal S4096x256 .f32) (i : Fin 4096) (n : Fin 256) : leaky2 h (ix2 i n) = leak (h (ix2 i n)) := by
  pointwise [leaky2, leak]

theorem normV_at (v : FVec Ideal S4096x64 .f32) (r : Fin 4096) :
    Host.reduceAdd (mulf v v) (constant S_ .f32 0x00000000#32) reducesTo_S4096x64_S4096_d1 h_S_ (ix1 r)
      = ∑ q : Fin 64, v (ix2 r q) * v (ix2 r q) := by
  pointwise

theorem codeSq_at (cb : FVec Ideal S8192x64 .f32) (k : Fin 8192) :
    codeSq cb (ix1 k) = ∑ q : Fin 64, cb (ix2 k q) * cb (ix2 k q) := by
  pointwise [codeSq]

theorem cross_at (v : FVec Ideal S4096x64 .f32) (cb : FVec Ideal S8192x64 .f32) (r : Fin 4096) (k : Fin 8192) :
    (Host.dotGeneral dot_S4096x64_S64x8192_S4096x8192_1_0_0_1_n_n none v
        (transpose S64x8192 [1, 0] cb transposes_S8192x64_S64x8192_1_0)) (ix2 r k)
      = ∑ q : Fin 64, v (ix2 r q) * cb (ix2 k q) := by
  pointwise

/-- How the three parts of a distance are put together. -/
theorem combine_at (n : FVec Ideal S4096 .f32) (c : FVec Ideal S8192 .f32) (x : FVec Ideal S4096x8192 .f32) (r : Fin 4096)
    (k : Fin 8192) :
    subf
      (addf
        (broadcastInDim S4096x8192 ![0, 1] bcast_S4096x1_S4096x8192_0_1 (broadcastInDim S4096x1 ![0] bcast_S4096_S4096x1_0 n))
        (broadcastInDim S4096x8192 ![0, 1] bcast_S1x8192_S4096x8192_0_1 (broadcastInDim S1x8192 ![1] bcast_S8192_S1x8192_1 c)))
      (mulf (broadcastInDim S4096x8192 ![] bcast_S_S4096x8192 (constant S_ .f32 0x40000000#32)) x) (ix2 r k)
      = n (ix1 r) + c (ix1 k) - Ideal.ofBits .f32 0x40000000#32 * x (ix2 r k) := by
  pointwise

/-- One distance: the squared norms' sum less twice the inner product. -/
theorem dist_at (v : FVec Ideal S4096x64 .f32) (cb : FVec Ideal S8192x64 .f32) (r : Fin 4096) (k : Fin 8192) :
    dist v cb (ix2 r k)
      = ((∑ q : Fin 64, v (ix2 r q) * v (ix2 r q)) + ∑ q : Fin 64, cb (ix2 k q) * cb (ix2 k q))
        - Ideal.ofBits .f32 0x40000000#32 * ∑ q : Fin 64, v (ix2 r q) * cb (ix2 k q) := by
  rw [dist, combine_at, normV_at, codeSq_at, cross_at]

/-- The vectors of split `j`: the columns `64 * j … 64 * j + 63` of the embeddings. -/
def split (z : FVec Ideal S4096x256 .f32) (j : Fin 4) : FVec Ideal S4096x64 .f32 := ![split0 z, split1 z, split2 z, split3 z] j

theorem split0_at (z : FVec Ideal S4096x256 .f32) (r : Fin 4096) (q : Fin 64) :
    split0 z (ix2 r q) = z (ix2 r ⟨q, by omega⟩) := by pointwise
theorem split1_at (z : FVec Ideal S4096x256 .f32) (r : Fin 4096) (q : Fin 64) :
    split1 z (ix2 r q) = z (ix2 r ⟨64 + q, by omega⟩) := by pointwise
theorem split2_at (z : FVec Ideal S4096x256 .f32) (r : Fin 4096) (q : Fin 64) :
    split2 z (ix2 r q) = z (ix2 r ⟨128 + q, by omega⟩) := by pointwise
theorem split3_at (z : FVec Ideal S4096x256 .f32) (r : Fin 4096) (q : Fin 64) :
    split3 z (ix2 r q) = z (ix2 r ⟨192 + q, by omega⟩) := by pointwise

theorem split_at (z : FVec Ideal S4096x256 .f32) (j : Fin 4) (r : Fin 4096) (q : Fin 64) :
    split z j (ix2 r q) = z (ix2 r ⟨64 * j + q, by omega⟩) := by
  have move : ∀ (p p' : ℕ) (h : p < 256) (h' : p' < 256), p = p' → z (ix2 r ⟨p, h⟩) = z (ix2 r ⟨p', h'⟩) := by
    rintro p _ h h' rfl; rfl
  match j with
  | ⟨0, _⟩ => exact (split0_at z r q).trans (move _ _ _ _ (by simp only [Nat.mul_zero, Nat.zero_add]))
  | ⟨1, _⟩ => exact (split1_at z r q).trans (move _ _ _ _ (by simp only [Nat.mul_one]))
  | ⟨2, _⟩ => exact (split2_at z r q).trans (move _ _ _ _ (by simp only [Nat.reduceMul]))
  | ⟨3, _⟩ => exact (split3_at z r q).trans (move _ _ _ _ (by simp only [Nat.reduceMul]))

theorem beside_at (a b c d : IVec S4096 32) (r : Fin 4096) (j : Fin 4) :
    beside (col a) (col b) (col c) (col d) (ix2 r j) = (![a, b, c, d] j) (ix1 r) := by
  pointwise [beside]
  fin_cases j <;> simp

theorem map_four {α β : Type} (f : α → β) (a b c d : α) (j : Fin 4) : ![f a, f b, f c, f d] j = f (![a, b, c, d] j) := by
  fin_cases j <;> rfl

/-- Column `j` of the indices is split `j`'s argmin. -/
theorem indices_at (z : FVec Ideal S4096x256 .f32) (cb : FVec Ideal S8192x64 .f32) (r : Fin 4096) (j : Fin 4) :
    indices z cb (ix2 r j) = argmin (dist (split z j) cb) (ix1 r) := by
  rw [indices, beside_at, map_four (fun v => argmin (dist v cb)), split]

end Cert.Vq.Ref

end
-- ==== Proof.Vq.RefArgmin.lean ====
/- The reference's index of each row's smallest entry, on the extended reals: the position of the first smallest entry. -/
module

public import proofs.«01_k».proof.Proof.Vq.RefTerm
public import proofs.«01_k».proof.Proof.Vq.FirstMin
public import proofs.«01_k».proof.Proof.Vq.Consts

@[expose] public section

set_option maxRecDepth 16384

noncomputable section

namespace Cert.Vq.Ref

open Cert.ReferenceIdeal Cert.ReferenceIdeal.Gen
open Idealize.ShloMosaic

/-- One step of the reference's argmin: of two (value, index) pairs it keeps the one with the smaller value, of two equal
    values the one with the smaller index. -/
theorem reducer_at (a b : EReal) (i j : ℕ) (hi : i < 8192) (hj : j < 8192) :
    reducer_argmin_f32_i32 (F := Ideal) (a, BitVec.ofNat 32 i) (b, BitVec.ofNat 32 j)
      = if a < b ∨ (a = b ∧ i < j) then (a, BitVec.ofNat 32 i) else (b, BitVec.ofNat 32 j) := by
  have hs : IntOp.cmpi .slt (BitVec.ofNat 32 i) (BitVec.ofNat 32 j) = BitVec.ofBool (decide (i < j)) := by
    rw [show IntOp.cmpi .slt (BitVec.ofNat 32 i) (BitVec.ofNat 32 j)
      = BitVec.ofBool ((BitVec.ofNat 32 i).slt (BitVec.ofNat 32 j)) from rfl, BitVec.slt, toInt_ofNat i hi, toInt_ofNat j hj]
    simp
  unfold reducer_argmin_f32_i32
  simp only [hs, Ideal.cmpf_def, Ideal.cmp]
  rcases lt_trichotomy a b with h | h | h
  · simp [h, h.ne, IntOp.ori, IntOp.andi, Scalar.select]
  · subst h
    by_cases hij : i < j <;> simp [hij, IntOp.ori, IntOp.andi, Scalar.select]
  · simp [h, h.le, h.ne', not_lt.mpr h.le, IntOp.ori, IntOp.andi, Scalar.select]

/-- The value and index of position `k`. -/
abbrev entry (g : ℕ → EReal) (k : ℕ) : Ideal .f32 × BitVec 32 := (g k, BitVec.ofNat 32 k)

/-- The fold over any list of positions, from a first position `a`: it ends at the position of the smallest value, of equal
    ones the smallest. -/
theorem fold_first (g : ℕ → EReal) (L : List ℕ) :
    ∀ a < 8192, (∀ k ∈ L, k < 8192) →
      ∃ b, (L.map (entry g)).foldl reducer_argmin_f32_i32 (entry g a) = entry g b ∧ b ∈ a :: L
        ∧ ∀ k ∈ a :: L, g b < g k ∨ (g b = g k ∧ b ≤ k) := by
  induction L with
  | nil =>
    intro a _ _
    refine ⟨a, rfl, List.mem_singleton.mpr rfl, fun k hk => ?_⟩
    obtain rfl := List.mem_singleton.mp hk
    exact .inr ⟨rfl, le_refl _⟩
  | cons x L ih =>
    intro a ha hL
    have hx : x < 8192 := hL x (List.mem_cons_self ..)
    have hL' : ∀ k ∈ L, k < 8192 := fun k hk => hL k (List.mem_cons_of_mem _ hk)
    rw [List.map_cons, List.foldl_cons, entry, entry, reducer_at _ _ _ _ ha hx]
    by_cases h : g a < g x ∨ (g a = g x ∧ a < x)
    · rw [if_pos h]
      obtain ⟨b, hb, hm, hle⟩ := ih a ha hL'
      have hba := hle a (List.mem_cons_self ..)
      refine ⟨b, hb, ?_, fun k hk => ?_⟩
      · rcases List.mem_cons.mp hm with h' | h'
        · exact h' ▸ List.mem_cons_self ..
        · exact List.mem_cons_of_mem _ (List.mem_cons_of_mem _ h')
      · rcases List.mem_cons.mp hk with rfl | hk
        · exact hba
        · rcases List.mem_cons.mp hk with rfl | hk
          · rcases h with h | ⟨h, h'⟩ <;> rcases hba with hb' | ⟨hb', hb''⟩
            · exact .inl (hb'.trans h)
            · exact .inl (hb'.trans_lt h)
            · exact .inl (hb'.trans_eq h)
            · exact .inr ⟨hb'.trans h, by omega⟩
          · exact hle k (List.mem_cons_of_mem _ hk)
    · rw [if_neg h]
      obtain ⟨b, hb, hm, hle⟩ := ih x hx hL'
      have hbx := hle x (List.mem_cons_self ..)
      refine ⟨b, hb, List.mem_cons_of_mem _ hm, fun k hk => ?_⟩
      rcases List.mem_cons.mp hk with rfl | hk
      · have h1 : g x ≤ g k := not_lt.mp fun hlt => h (.inl hlt)
        rcases hbx with hb' | ⟨hb', hb''⟩
        · exact .inl (hb'.trans_le h1)
        · rcases h1.lt_or_eq with h1 | h1
          · exact .inl (hb'.trans_lt h1)
          · exact .inr ⟨hb'.trans h1, hb''.trans (not_lt.mp fun hlt => h (.inr ⟨h1.symm, hlt⟩))⟩
      · exact hle k hk

/-- From plus infinity, over a list of exactly the positions below 8192, of which no value is plus infinity: the fold
    ends with the first minimum. -/
theorem fold_all (g : ℕ → EReal) (L : List ℕ) (hL : ∀ k, k ∈ L ↔ k < 8192) (hg : ∀ k < 8192, g k < ⊤) :
    ∃ b, (L.map (entry g)).foldl reducer_argmin_f32_i32 (⊤, BitVec.ofNat 32 0) = entry g b ∧ FirstMin 8192 g b := by
  cases L with
  | nil => exact absurd ((hL 0).mpr (by decide)) List.not_mem_nil
  | cons a L =>
    have ha : a < 8192 := (hL a).mp (List.mem_cons_self ..)
    rw [List.map_cons, List.foldl_cons, entry, reducer_at _ _ _ _ (by decide) ha,
      if_neg (by rintro (h | ⟨h, _⟩); exacts [not_top_lt h, (hg a ha).ne h.symm])]
    obtain ⟨b, hb, hm, hle⟩ := fold_first g L a ha fun k hk => (hL k).mp (List.mem_cons_of_mem _ hk)
    refine ⟨b, hb, (hL b).mp hm, fun i hi => ?_, fun i hi => ?_⟩
    · rcases hle i ((hL i).mpr hi) with h | ⟨h, _⟩
      exacts [h.le, h.le]
    · rcases hle i ((hL i).mpr (hi.trans ((hL b).mp hm))) with h | ⟨_, h⟩
      exacts [h, absurd hi (not_lt.mpr h)]

/-- Row `r` of an array, as a family of values; 0 past the last column. -/
def row (d : FVec Ideal S4096x8192 .f32) (r : Fin 4096) (k : ℕ) : EReal := if h : k < 8192 then d (ix2 r ⟨k, h⟩) else 0

theorem row_val (d : FVec Ideal S4096x8192 .f32) (r : Fin 4096) (k : Fin 8192) : row d r k.val = d (ix2 r k) := by
  rw [row, dif_pos k.isLt]

theorem argReduce_fold (d : FVec Ideal S4096x8192 .f32) (y : IVec S4096x8192 32) (ix : FVec Ideal S_ .f32) (iy : IVec S_ 32)
    (j : S4096.Idx) :
    Host.argReduce reducer_argmin_f32_i32 d y ix iy reducesTo_S4096x8192_S4096_d1 h_S_ j
      = (Host.argReduceFiber d y reducesTo_S4096x8192_S4096_d1 j).foldl reducer_argmin_f32_i32
          (ix (Shape.Idx.first h_S_), iy (Shape.Idx.first h_S_)) := by
  rw [Ideal.argReduce_eq_reduce2]
  exact Host.reduce2_eq_foldl_fiber _ _ _ _ _ _ _ _

theorem first_top : (constant (F := Ideal) S_ .f32 0x7F800000#32) (Shape.Idx.first h_S_) = ⊤ := ofBits_top
theorem first_zero : (constantI S_ 32 0#32) (Shape.Idx.first h_S_) = BitVec.ofNat 32 0 := rfl

/-- The second components of a family of pairs, at an index where the pair is known. -/
theorem snd_at {α β ι : Type} (A : ι → α × β) (a : ι → β) (h : a = fun j => (A j).2) (j : ι) (p : α × β) (hp : A j = p) :
    a j = p.2 := by
  subst h
  rw [← hp]

theorem argmin_snd (d : FVec Ideal S4096x8192 .f32) :
    argmin d = fun j => (Host.argReduce reducer_argmin_f32_i32 d (iotaInDim S4096x8192 32 1) (constant S_ .f32 0x7F800000#32)
      (constantI S_ 32 0#32) reducesTo_S4096x8192_S4096_d1 h_S_ j).2 := by
  unfold argmin
  rfl

/-- The (value, position) pairs of one row of an array of any extents: those of a list of exactly the row's positions. -/
theorem fiber_entries {n0 n1 : ℕ} {t : Shape} (h : (⟨2, ![n0, n1]⟩ : Shape).ReducesTo [1] t)
    (d : (⟨2, ![n0, n1]⟩ : Shape).Idx → EReal) (y : (⟨2, ![n0, n1]⟩ : Shape).Idx → BitVec 32) (j : t.Idx) (r : Fin n0)
    (g : ℕ → EReal) (hr : ∀ i, h.drop i = j ↔ ∃ k : Fin n1, ix2 r k = i) (hy : ∀ k : Fin n1, y (ix2 r k) = BitVec.ofNat 32 k)
    (hg : ∀ k : Fin n1, g k = d (ix2 r k)) :
    ∃ L : List ℕ, (∀ k, k ∈ L ↔ k < n1) ∧ Host.argReduceFiber d y h j = L.map (entry g) := by
  refine ⟨((List.finRange (⟨2, ![n0, n1]⟩ : Shape).numel).filter fun n =>
    h.drop ((⟨2, ![n0, n1]⟩ : Shape).rowMajor.symm n) = j).map fun n => (((⟨2, ![n0, n1]⟩ : Shape).rowMajor.symm n) 1).val, ?_, ?_⟩
  · intro k
    refine ⟨fun hk => ?_, fun hk => ?_⟩
    · obtain ⟨n, _, rfl⟩ := List.mem_map.mp hk
      exact ((⟨2, ![n0, n1]⟩ : Shape).rowMajor.symm n 1).isLt
    · refine List.mem_map.mpr ⟨(⟨2, ![n0, n1]⟩ : Shape).rowMajor (ix2 r ⟨k, hk⟩), List.mem_filter.mpr ⟨List.mem_finRange _, ?_⟩, ?_⟩
      · rw [Equiv.symm_apply_apply]
        exact decide_eq_true ((hr _).mpr ⟨⟨k, hk⟩, rfl⟩)
      · rw [Equiv.symm_apply_apply]; rfl
  · rw [Host.argReduceFiber, List.map_map]
    refine List.map_congr_left fun n hn => ?_
    obtain ⟨k, hk⟩ := (hr _).mp (of_decide_eq_true (List.mem_filter.mp hn).2)
    rw [Function.comp_apply, ← hk, hy, ← hg]
    rfl

theorem row_drop (r : Fin 4096) (i : S4096x8192.Idx) :
    reducesTo_S4096x8192_S4096_d1.drop i = ix1 r ↔ ∃ k : Fin 8192, ix2 r k = i :=
  Shape.ReducesTo.fiber_r2_a1 reducesTo_S4096x8192_S4096_d1 (ix1 r) i

theorem iota_at (r : Fin 4096) (k : Fin 8192) : iotaInDim S4096x8192 32 1 (ix2 r k) = BitVec.ofNat 32 k := rfl

/-- The reference's index of row `r` is the word of the row's first minimum, if no entry of the row is plus infinity. -/
theorem argmin_first (d : FVec Ideal S4096x8192 .f32) (r : Fin 4096) (hd : ∀ k, d (ix2 r k) < ⊤) :
    ∃ b, argmin d (ix1 r) = BitVec.ofNat 32 b ∧ FirstMin 8192 (row d r) b := by
  obtain ⟨L, hL, hfib⟩ := fiber_entries reducesTo_S4096x8192_S4096_d1 d (iotaInDim S4096x8192 32 1) (ix1 r) r (row d r)
    (row_drop r) (iota_at r) (row_val d r)
  obtain ⟨b, hb, hm⟩ := fold_all (row d r) L hL fun k hk => by rw [row, dif_pos hk]; exact hd ⟨k, hk⟩
  refine ⟨b, snd_at _ _ (argmin_snd d) (ix1 r) (entry (row d r) b) ?_, hm⟩
  rw [argReduce_fold, hfib, first_top, first_zero, hb]

end Cert.Vq.Ref

end
-- ==== Proof.Vq.Agree.lean ====
/- One block of 1024 rows against the reference: the embeddings agree row by row, and, when all entries are real numbers,
   so do the four splits' indices. -/
module

public import proofs.«01_k».proof.Proof.Vq.Body
public import proofs.«01_k».proof.Proof.Vq.KerEmb
public import proofs.«01_k».proof.Proof.Vq.Quant
public import proofs.«01_k».proof.Proof.Vq.RefRead
public import proofs.«01_k».proof.Proof.Vq.RefArgmin

@[expose] public section

set_option maxRecDepth 16384

noncomputable section

namespace Cert.Vq

open Cert.KernelIdeal Cert.KernelIdeal.Gen
open Idealize.ShloMosaic

/-- Row `i` of the kernel's block of embeddings is row `r` of the reference's embeddings, if row `i` of the input block is row
    `r` of the input, and the biases are the same numbers. -/
theorem emb_row (xb : FVec Ideal S1024x768 .f32) (x : FVec Ideal S4096x768 .f32) (W1 : FVec Ideal S768x512 .f32)
    (b1' : FVec Ideal S1x512 .f32) (b1 : FVec Ideal S512 .f32) (W2 : FVec Ideal S512x256 .f32) (b2' : FVec Ideal S1x256 .f32)
    (b2 : FVec Ideal S256 .f32) (W3 : FVec Ideal S256x256 .f32) (b3' : FVec Ideal S1x256 .f32) (b3 : FVec Ideal S256 .f32)
    (i : Fin 1024) (r : Fin 4096) (hx : ∀ k, xb (ix2 i k) = x (ix2 r k)) (h1 : ∀ n, b1' (ix2 0 n) = b1 (ix1 n))
    (h2 : ∀ n, b2' (ix2 0 n) = b2 (ix1 n)) (h3 : ∀ n, b3' (ix2 0 n) = b3 (ix1 n)) (n : Fin 256) :
    k0_pay2 xb W1 b1' W2 b2' W3 b3' (ix2 i n) = Ref.emb x W1 b1 W2 b2 W3 b3 (ix2 r n) := by
  rw [Ker.pay2_eq, Ref.emb, Ker.layer3_at, Ref.layer3_at, h3]
  simp only [Ker.leaky2_at, Ref.leaky2_at, Ker.layer2_at, Ref.layer2_at, Ker.leaky1_at, Ref.leaky1_at, Ker.layer1_at, Ref.layer1_at,
    hx, h1, h2]

/-- The embeddings of real arguments are real. -/
theorem emb_re (x : FVec Ideal S4096x768 .f32) (W1 : FVec Ideal S768x512 .f32) (b1 : FVec Ideal S512 .f32)
    (W2 : FVec Ideal S512x256 .f32) (b2 : FVec Ideal S256 .f32) (W3 : FVec Ideal S256x256 .f32) (b3 : FVec Ideal S256 .f32)
    (hx : ∀ i, Re (x i)) (h1 : ∀ i, Re (W1 i)) (h1' : ∀ i, Re (b1 i)) (h2 : ∀ i, Re (W2 i)) (h2' : ∀ i, Re (b2 i))
    (h3 : ∀ i, Re (W3 i)) (h3' : ∀ i, Re (b3 i)) (r : Fin 4096) (n : Fin 256) : Re (Ref.emb x W1 b1 W2 b2 W3 b3 (ix2 r n)) := by
  rw [Ref.emb, Ref.layer3_at]
  refine Re.add (Re.sum _ _ fun k => Re.mul ?_ (h3 _)) (h3' _)
  rw [Ref.leaky2_at, Ref.layer2_at]
  refine Re.leak (Re.add (Re.sum _ _ fun l => Re.mul ?_ (h2 _)) (h2' _))
  rw [Ref.leaky1_at, Ref.layer1_at]
  exact Re.leak (Re.add (Re.sum _ _ fun p => Re.mul (hx _) (h1 _)) (h1' _))

/-- Row `i` of the kernel's float indices `p` gives the word of row `r` of the reference's indices for the vectors `v`. -/
def SameIndex (cb : FVec Ideal S8192x64 .f32) (i : Fin 1024) (r : Fin 4096) (p : FVec Ideal S1024 .f32)
    (v : FVec Ideal Cert.ReferenceIdeal.S4096x64 .f32) : Prop :=
  FloatOps.fptosi (F := Ideal) (φ := .f32) 32 (p (ix1 i)) = Ref.argmin (Ref.dist v cb) (ix1 r)

/-- One split: the kernel's index of row `i` is the reference's index of row `r`, if the 64 numbers are the same reals and the
    kernel's code vectors are the reference's, transposed, and real. -/
theorem split_index (z : FVec Ideal S1024x256 .f32) (ct : FVec Ideal S64x8192 .f32) (v : FVec Ideal Cert.ReferenceIdeal.S4096x64 .f32)
    (cb : FVec Ideal S8192x64 .f32) (o : ℕ) (h : S1024x256.Slices ![0, o] S1024x64) (ho : o + 64 ≤ 256) (i : Fin 1024)
    (r : Fin 4096) (hv : ∀ q : Fin 64, v (ix2 r q) = z (ix2 i ⟨o + q, by omega⟩)) (hc : ∀ q k, ct (ix2 q k) = cb (ix2 k q))
    (hz : ∀ n, Re (z (ix2 i n))) (hcb : ∀ k, Re (cb k)) :
    SameIndex cb i r (Ker.quant z ct o h) v := by
  unfold SameIndex
  obtain ⟨a, ha, hma⟩ := Ker.quant_first z ct o h ho i
  have hcode : ∀ k < 8192, ∀ q, Re (Ker.code ct k q) := fun k hk q => by rw [Ker.code, dif_pos hk, hc]; exact hcb _
  have hvz : ∀ q : Fin 64, Re (z (ix2 i ⟨o + q, by omega⟩)) := fun q => hz _
  have hd : ∀ k (hk : k < 8192), Ref.dist v cb (ix2 r ⟨k, hk⟩)
      = distOf (fun q : Fin 64 => z (ix2 i ⟨o + q, by omega⟩)) (Ker.code ct k) := fun k hk => by
    rw [Ref.dist_at]
    simp only [hv, distOf, Ker.code, dif_pos hk, hc]
  obtain ⟨b, hb, hmb⟩ := Ref.argmin_first (Ref.dist v cb) r fun k => by
    rw [show k = ⟨k.val, k.isLt⟩ from rfl, hd]
    exact distOf_lt_top hvz (hcode k.val k.isLt)
  have hma' : FirstMin 8192 (Ref.row (Ref.dist v cb) r) a := hma.congr fun p hp q hq => by
    rw [Ref.row, Ref.row, dif_pos hp, dif_pos hq, hd, hd]
    exact scoreOf_lt hvz (hcode p hp) (hcode q hq)
  rw [ha, hb, fptosi_nat a hma.lt, hma'.unique hmb]

/-- A relation that holds place by place between four and four. -/
theorem four_rel {α β : Type} (P : α → β → Prop) (a b c d : α) (a' b' c' d' : β) (h0 : P a a') (h1 : P b b') (h2 : P c c')
    (h3 : P d d') (j : Fin 4) : P (![a, b, c, d] j) (![a', b', c', d'] j) := by
  match j with
  | ⟨0, _⟩ => exact h0
  | ⟨1, _⟩ => exact h1
  | ⟨2, _⟩ => exact h2
  | ⟨3, _⟩ => exact h3

/-- All four splits: row `i` of the kernel's block of indices is row `r` of the reference's indices. -/
theorem index_row (z : FVec Ideal S1024x256 .f32) (ct : FVec Ideal S64x8192 .f32) (zr : FVec Ideal S4096x256 .f32)
    (cb : FVec Ideal S8192x64 .f32) (i : Fin 1024) (r : Fin 4096) (hzr : ∀ n, z (ix2 i n) = zr (ix2 r n))
    (hc : ∀ q k, ct (ix2 q k) = cb (ix2 k q)) (hz : ∀ n, Re (zr (ix2 r n))) (hcb : ∀ k, Re (cb k)) (j : Fin 4) :
    Ker.indexBlock z ct (ix2 j i) = Ref.indices zr cb (ix2 r j) := by
  have hz' : ∀ n, Re (z (ix2 i n)) := fun n => by rw [hzr]; exact hz n
  have h0 := split_index z ct (Ref.split0 zr) cb 0 (Ker.slices_split 0 (by decide)) (by decide) i r
    (fun q => by rw [Ref.split0_at, hzr]; exact congrArg (fun n => zr (ix2 r n)) (Fin.ext (Nat.zero_add _).symm)) hc hz' hcb
  have h1 := split_index z ct (Ref.split1 zr) cb 64 (Ker.slices_split 64 (by decide)) (by decide) i r
    (fun q => by rw [Ref.split1_at, hzr]) hc hz' hcb
  have h2 := split_index z ct (Ref.split2 zr) cb 128 (Ker.slices_split 128 (by decide)) (by decide) i r
    (fun q => by rw [Ref.split2_at, hzr]) hc hz' hcb
  have h3 := split_index z ct (Ref.split3 zr) cb 192 (Ker.slices_split 192 (by decide)) (by decide) i r
    (fun q => by rw [Ref.split3_at, hzr]) hc hz' hcb
  rw [Ref.indices_at, Ker.indexBlock, Ker.pay1_at, Ref.split]
  have h := four_rel (SameIndex cb i r) _ _ _ _ _ _ _ _ h0 h1 h2 h3 j
  unfold SameIndex at h
  exact h

end Cert.Vq

end
-- ==== Proof.Vq.Run.lean ====
/- The kernel program's run: its two results as the reference's functions of the arguments, the arguments unchanged. -/
module

public import proofs.«01_k».proof.Proof.Vq.Agree
public import Idealize.ShloMosaic.Lib.Pipeline.Value
public import Idealize.ShloMosaic.Lib.Pipeline.ValueKit
public import Idealize.ShloMosaic.Lib.StableHlo.RunRead
public import Idealize.ShloMosaic.Lib.Claim

@[expose] public section

set_option maxRecDepth 16384

noncomputable section

namespace Cert.Vq

open Cert.KernelIdeal Cert.KernelIdeal.Gen
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg)

/-! ## What the host operations before the grid leave -/

theorem V_codes (c : Dev nD) : (V m c main_v0 : FVec Ideal S64x8192 .f32)
    = transpose S64x8192 [1, 0] (m ((c : Thread nD τ).loc main_arg7)) transposes_S8192x64_S64x8192_1_0 := by
  unfold V V0
  rw [List.flatten_cons, List.flatten_nil, List.append_nil]
  after_reads_simp

theorem V_bias1 (c : Dev nD) : (V m c main_v1 : FVec Ideal S1x512 .f32)
    = shapeCast S1x512 (m ((c : Thread nD τ).loc main_arg2)) shapeCasts_S512_S1x512 := by
  unfold V V0
  rw [List.flatten_cons, List.flatten_nil, List.append_nil]
  after_reads_simp
  rfl

theorem V_bias2 (c : Dev nD) : (V m c main_v2 : FVec Ideal S1x256 .f32)
    = shapeCast S1x256 (m ((c : Thread nD τ).loc main_arg4)) shapeCasts_S256_S1x256 := by
  unfold V V0
  rw [List.flatten_cons, List.flatten_nil, List.append_nil]
  after_reads_simp
  rfl

theorem V_bias3 (c : Dev nD) : (V m c main_v3 : FVec Ideal S1x256 .f32)
    = shapeCast S1x256 (m ((c : Thread nD τ).loc main_arg6)) shapeCasts_S256_S1x256 := by
  unfold V V0
  rw [List.flatten_cons, List.flatten_nil, List.append_nil]
  after_reads_simp
  rfl

theorem codes_at (x : FVec Ideal S8192x64 .f32) (q : Fin 64) (k : Fin 8192) :
    transpose S64x8192 [1, 0] x transposes_S8192x64_S64x8192_1_0 (ix2 q k) = x (ix2 k q) := by pointwise

theorem bias512_at (b : FVec Ideal S512 .f32) (n : Fin 512) : shapeCast S1x512 b shapeCasts_S512_S1x512 (ix2 0 n) = b (ix1 n) := by
  pointwise

theorem bias256_at (b : FVec Ideal S256 .f32) (n : Fin 256) : shapeCast S1x256 b shapeCasts_S256_S1x256 (ix2 0 n) = b (ix1 n) := by
  pointwise

/-! ## The blocks -/

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![t.val, 0] := (by decide +kernel : ∀ t : Fin grid0.N, _)
theorem at9 : ∀ t : Fin cfg0.N, win0_9.index t = ![0, t.val] := (by decide +kernel : ∀ t : Fin grid0.N, _)

theorem block_x (c : Dev nD) (t : Fin cfg0.N) (i : Fin 1024) (r : Fin 4096) (hr : r.val = t.val * 1024 + i.val) (k : Fin 768) :
    (iblk m c 0 t : FVec Ideal S1024x768 .f32) (ix2 i k) = (m ((c : Thread nD τ).loc main_arg0) : FVec Ideal S4096x768 .f32) (ix2 r k) := by
  blk_simp [iblk]
  rw [V_main_arg0]
  congr 1
  blk_ext [at0]

theorem block_W1 (c : Dev nD) (t : Fin cfg0.N) : (iblk m c 1 t : FVec Ideal S768x512 .f32) = V m c main_arg1 := by
  blk_ext! [iblk, at1]

theorem block_bias1 (c : Dev nD) (t : Fin cfg0.N) : (iblk m c 2 t : FVec Ideal S1x512 .f32) = V m c main_v1 := by
  blk_ext! [iblk, at2]

theorem block_W2 (c : Dev nD) (t : Fin cfg0.N) : (iblk m c 3 t : FVec Ideal S512x256 .f32) = V m c main_arg3 := by
  blk_ext! [iblk, at3]

theorem block_bias2 (c : Dev nD) (t : Fin cfg0.N) : (iblk m c 4 t : FVec Ideal S1x256 .f32) = V m c main_v2 := by
  blk_ext! [iblk, at4]

theorem block_W3 (c : Dev nD) (t : Fin cfg0.N) : (iblk m c 5 t : FVec Ideal S256x256 .f32) = V m c main_arg5 := by
  blk_ext! [iblk, at5]

theorem block_bias3 (c : Dev nD) (t : Fin cfg0.N) : (iblk m c 6 t : FVec Ideal S1x256 .f32) = V m c main_v3 := by
  blk_ext! [iblk, at6]

theorem block_codes (c : Dev nD) (t : Fin cfg0.N) : (iblk m c 7 t : FVec Ideal S64x8192 .f32) = V m c main_v0 := by
  blk_ext! [iblk, at7]

/-! ## The result arrays -/

/-- The reference's embeddings of device `c`'s arguments. -/
abbrev embArgs (c : Dev nD) : FVec Ideal Cert.ReferenceIdeal.S4096x256 .f32 :=
  Ref.emb (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The embeddings that point `t` computes. -/
abbrev embBlock (c : Dev nD) (t : Fin cfg0.N) : FVec Ideal S1024x256 .f32 :=
  k0_pay2 (iblk m c 0 t) (iblk m c 1 t) (iblk m c 2 t) (iblk m c 3 t) (iblk m c 4 t) (iblk m c 5 t) (iblk m c 6 t)

theorem embBlock_at (c : Dev nD) (t : Fin cfg0.N) (i : Fin 1024) (r : Fin 4096) (hr : r.val = t.val * 1024 + i.val) (n : Fin 256) :
    embBlock m c t (ix2 i n) = embArgs m c (ix2 r n) := by
  unfold embBlock embArgs
  rw [block_W1, block_bias1, block_W2, block_bias2, block_W3, block_bias3, V_main_arg1, V_main_arg3, V_main_arg5, V_bias1, V_bias2,
    V_bias3]
  exact emb_row _ _ _ _ _ _ _ _ _ _ _ i r (block_x m c t i r hr) (bias512_at _) (bias256_at _) (bias256_at _) n

theorem hz : (![0, 0] : Fin 2 → Nat) = fun _ => 0 := funext fun a => by fin_cases a <;> rfl

theorem after8_eq (c : Dev nD) (t : Fin cfg0.N) : (dats m 0 c).after 8 t = embBlock m c t := by
  rw [after0_8]
  unfold out0_8
  rw [View.canon_unit_zero hz, View.ld_unit_zero hz, View.ld_unit_zero hz, View.ld_unit_zero hz, View.ld_unit_zero hz,
    View.ld_unit_zero hz, View.ld_unit_zero hz, View.ld_unit_zero hz]

theorem after9_eq (c : Dev nD) (t : Fin cfg0.N) : (dats m 0 c).after 9 t = Ker.indexBlock (embBlock m c t) (iblk m c 7 t) := by
  rw [after0_9, Ker.out9_steps, View.canon_unit_zero hz, View.ld_unit_zero hz, View.ld_unit_zero hz, View.ld_unit_zero hz,
    View.ld_unit_zero hz, View.ld_unit_zero hz, View.ld_unit_zero hz, View.ld_unit_zero hz, View.ld_unit_zero hz, k0_pay3, shapeCast_self]

/-- The first result's array ends at the reference's embeddings. -/
theorem final8 (c : Dev nD) : (dats m 0 c).arrAt 8 cfg0.N = embArgs m c := by
  refine (dats m 0 c).arrAt_eq_of_covers 8 _ (by decide +kernel) fun t hf y => ?_
  blk_simp
  rw [after8_eq]
  obtain ⟨i, n, rfl⟩ : ∃ (i : Fin 1024) (n : Fin 256), y = ix2 i n := ⟨y 0, y 1, by funext a; fin_cases a <;> rfl⟩
  have ht : t.val < 4 := t.isLt
  have hr : t.val * 1024 + i.val < 4096 := by omega
  rw [embBlock_at m c t i ⟨_, hr⟩ rfl n]
  congr 1
  blk_ext [at8]

/-- Every argument is real. -/
def RealArgs (c : Dev nD) : Prop :=
  (∀ i, Re ((m ((c : Thread nD τ).loc main_arg0) : FVec Ideal S4096x768 .f32) i))
  ∧ (∀ i, Re ((m ((c : Thread nD τ).loc main_arg1) : FVec Ideal S768x512 .f32) i))
  ∧ (∀ i, Re ((m ((c : Thread nD τ).loc main_arg2) : FVec Ideal S512 .f32) i))
  ∧ (∀ i, Re ((m ((c : Thread nD τ).loc main_arg3) : FVec Ideal S512x256 .f32) i))
  ∧ (∀ i, Re ((m ((c : Thread nD τ).loc main_arg4) : FVec Ideal S256 .f32) i))
  ∧ (∀ i, Re ((m ((c : Thread nD τ).loc main_arg5) : FVec Ideal S256x256 .f32) i))
  ∧ (∀ i, Re ((m ((c : Thread nD τ).loc main_arg6) : FVec Ideal S256 .f32) i))
  ∧ ∀ i, Re ((m ((c : Thread nD τ).loc main_arg7) : FVec Ideal S8192x64 .f32) i)

/-- The reference's indices of device `c`'s arguments. -/
abbrev indexArgs (c : Dev nD) : IVec Cert.ReferenceIdeal.S4096x4 32 :=
  Ref.indices (embArgs m c) (m ((c : Thread nD τ).loc main_arg7))

theorem indexBlock_at (c : Dev nD) (h : RealArgs m c) (t : Fin cfg0.N) (i : Fin 1024) (r : Fin 4096)
    (hr : r.val = t.val * 1024 + i.val) (j : Fin 4) :
    Ker.indexBlock (embBlock m c t) (iblk m c 7 t) (ix2 j i) = indexArgs m c (ix2 r j) := by
  obtain ⟨h0, h1, h2, h3, h4, h5, h6, h7⟩ := h
  refine index_row _ _ _ _ i r (embBlock_at m c t i r hr) (fun q k => ?_)
    (emb_re _ _ _ _ _ _ _ h0 h1 h2 h3 h4 h5 h6 r) h7 j
  rw [block_codes, V_codes]
  exact codes_at _ q k

/-- With real arguments the second result's array ends at the reference's indices, transposed. -/
theorem final9 (c : Dev nD) (h : RealArgs m c) (Y : IVec S4x4096 32) (hY : ∀ j r, Y (ix2 j r) = indexArgs m c (ix2 r j)) :
    (dats m 0 c).arrAt 9 cfg0.N = Y := by
  refine (dats m 0 c).arrAt_eq_of_covers 9 _ (by decide +kernel) fun t hf y => ?_
  blk_simp
  rw [after9_eq]
  obtain ⟨j, i, rfl⟩ : ∃ (j : Fin 4) (i : Fin 1024), y = ix2 j i := ⟨y 0, y 1, by funext a; fin_cases a <;> rfl⟩
  have ht : t.val < 4 := t.isLt
  have hr : t.val * 1024 + i.val < 4096 := by omega
  rw [indexBlock_at m c h t i ⟨_, hr⟩ rfl j, ← hY]
  refine congrArg Y ?_
  blk_ext [at9]

/-! ## After the grid -/

theorem tail_eq (c : Dev nD) :
    (Pipeline.afterTail₀ cfgs (dats m) 0 (V0 m) [hostOps1] c main_v5 : IVec S4096x4 32)
      = transpose S4096x4 [1, 0] ((dats m 0 c).arrAt 9 cfg0.N : IVec S4x4096 32) transposes_S4x4096_S4096x4_1_0 := by
  unfold Pipeline.afterTail₀
  rw [List.flatten_cons, List.flatten_nil, List.append_nil]
  after_reads_simp
  exact congrArg (transpose S4096x4 [1, 0] · transposes_S4x4096_S4096x4_1_0)
    (Pipeline.withArrays_arr _ winFacts0.arr_inj c _ _ 9)

theorem transpose_at (x : IVec S4x4096 32) (r : Fin 4096) (j : Fin 4) :
    transpose S4096x4 [1, 0] x transposes_S4x4096_S4096x4_1_0 (ix2 r j) = x (ix2 j r) := by pointwise

/-- What the second result ends at, whatever the arguments. -/
abbrev indexOut (c : Dev nD) : IVec S4096x4 32 :=
  transpose S4096x4 [1, 0] ((dats m 0 c).arrAt 9 cfg0.N : IVec S4x4096 32) transposes_S4x4096_S4096x4_1_0

theorem indexOut_eq (c : Dev nD) (h : RealArgs m c) : indexOut m c = indexArgs m c := by
  funext y
  obtain ⟨r, j, rfl⟩ : ∃ (r : Fin 4096) (j : Fin 4), y = ix2 r j := ⟨y 0, y 1, by funext a; fin_cases a <;> rfl⟩
  unfold indexOut
  rw [transpose_at, final9 m c h (fun i => indexArgs m c (ix2 (i 1) (i 0))) fun _ _ => rfl]
  rfl

theorem results : θ_run defs (onTc (τ := τ) (main (F := Ideal))) ⟨m, fun _ => 0, ρ⟩ fun r => ∀ c : Dev nD,
    r.2.mem ((c.tc : Thread nD τ).loc main_v4_0) = embArgs m c
    ∧ r.2.mem ((c.tc : Thread nD τ).loc main_v5) = indexOut m c :=
  (θ_run defs _ _).mono (fun _ h c => ⟨((h c).1 8).trans (final8 m c),
    ((h c).2 main_v5 (Pipeline.mem_restRefs_of main_v5 (by decide) (by decide))).trans (tail_eq m c)⟩) (run_main m ρ)

/-- The kernel program's run: the first result is the reference's embeddings, the second `indexOut`, the arguments unchanged. -/
theorem run : θ_run defs (onTc (τ := τ) (main (F := Ideal))) ⟨m, fun _ => 0, ρ⟩ fun r => ∀ c : Dev nD,
    (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
    ∧ r.2.mem ((c.tc : Thread nD τ).loc main_v4_0) = embArgs m c
    ∧ r.2.mem ((c.tc : Thread nD τ).loc main_v5) = indexOut m c :=
  (θ_run defs _ _).mono (fun _ h c => ⟨h.1 c, h.2 c⟩) (θ_run_and (unchanged m ρ) (results m ρ))

end Cert.Vq

end
-- ==== Proof.Vq.RefRun.lean ====
/- The run of the reference program: from any memory it ends, the two results holding `Ref.emb` and `Ref.indices` of the
   arguments, and the arguments unchanged. -/
module

public import proofs.«01_k».proof.Proof.Vq.RefTerm
public import Idealize.ShloMosaic.Lib.Claim
public import Idealize.ShloMosaic.Lib.StableHlo.RunRead

@[expose] public section

set_option maxRecDepth 16384

noncomputable section

namespace Cert.Vq.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference program's operations, in order. -/
abbrev ops : List (HloOp τ sig (Elt F)) :=
  [ binary main_arg0 main_arg1 main_v0 ((fun l r => Host.dotGeneral dot_S4096x768_S768x512_S4096x512_1_0_0_1_n_n none l r) : (⟨S4096x768, .f32⟩ : BufTy).Contents (Elt F) → (⟨S768x512, .f32⟩ : BufTy).Contents (Elt F) → (⟨S4096x512, .f32⟩ : BufTy).Contents (Elt F)),
    unary main_arg2 main_v1 (broadcastInDim S1x512 ![1] bcast_S512_S1x512_1 : (⟨S512, .f32⟩ : BufTy).Contents (Elt F) → (⟨S1x512, .f32⟩ : BufTy).Contents (Elt F)),
    unary main_v1 main_v2 (broadcastInDim S4096x512 ![0, 1] bcast_S1x512_S4096x512_0_1 : (⟨S1x512, .f32⟩ : BufTy).Contents (Elt F) → (⟨S4096x512, .f32⟩ : BufTy).Contents (Elt F)),
    binary main_v0 main_v2 main_v3 (addf : (⟨S4096x512, .f32⟩ : BufTy).Contents (Elt F) → (⟨S4096x512, .f32⟩ : BufTy).Contents (Elt F) → (⟨S4096x512, .f32⟩ : BufTy).Contents (Elt F)),
    nullary main_cst (constant S_ .f32 0x00000000#32),
    unary main_cst main_v4 (broadcastInDim S4096x512 ![] bcast_S_S4096x512 : (⟨S_, .f32⟩ : BufTy).Contents (Elt F) → (⟨S4096x512, .f32⟩ : BufTy).Contents (Elt F)),
    binary main_v3 main_v4 main_v5 (cmpf .oge : (⟨S4096x512, .f32⟩ : BufTy).Contents (Elt F) → (⟨S4096x512, .f32⟩ : BufTy).Contents (Elt F) → (⟨S4096x512, .i1⟩ : BufTy).Contents (Elt F)),
    nullary main_cst_0 (constant S_ .f32 0x3E4CCCCD#32),
    unary main_cst_0 main_v6 (broadcastInDim S4096x512 ![] bcast_S_S4096x512 : (⟨S_, .f32⟩ : BufTy).Contents (Elt F) → (⟨S4096x512, .f32⟩ : BufTy).Contents (Elt F)),
    binary main_v6 main_v3 main_v7 (mulf : (⟨S4096x512, .f32⟩ : BufTy).Contents (Elt F) → (⟨S4096x512, .f32⟩ : BufTy).Contents (Elt F) → (⟨S4096x512, .f32⟩ : BufTy).Contents (Elt F)),
    ternary main_v5 main_v3 main_v7 main_v8 select,
    binary main_v8 main_arg3 main_v9 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    unary main_arg4 main_v10 (broadcastInDim S1x256 ![1] bcast_S256_S1x256_1 : (⟨S256, .f32⟩ : BufTy).Contents (Elt F) → (⟨S1x256, .f32⟩ : BufTy).Contents (Elt F)),
    unary main_v10 main_v11 (broadcastInDim S4096x256 ![0, 1] bcast_S1x256_S4096x256_0_1 : (⟨S1x256, .f32⟩ : BufTy).Contents (Elt F) → (⟨S4096x256, .f32⟩ : BufTy).Contents (Elt F)),
    binary main_v9 main_v11 main_v12 (addf : (⟨S4096x256, .f32⟩ : BufTy).Contents (Elt F) → (⟨S4096x256, .f32⟩ : BufTy).Contents (Elt F) → (⟨S4096x256, .f32⟩ : BufTy).Contents (Elt F)),
    nullary main_cst_1 (constant S_ .f32 0x00000000#32),
    unary main_cst_1 main_v13 (broadcastInDim S4096x256 ![] bcast_S_S4096x256 : (⟨S_, .f32⟩ : BufTy).Contents (Elt F) → (⟨S4096x256, .f32⟩ : BufTy).Contents (Elt F)),
    binary main_v12 main_v13 main_v14 (cmpf .oge : (⟨S4096x256, .f32⟩ : BufTy).Contents (Elt F) → (⟨S4096x256, .f32⟩ : BufTy).Contents (Elt F) → (⟨S4096x256, .i1⟩ : BufTy).Contents (Elt F)),
    nullary main_cst_2 (constant S_ .f32 0x3E4CCCCD#32),
    unary main_cst_2 main_v15 (broadcastInDim S4096x256 ![] bcast_S_S4096x256 : (⟨S_, .f32⟩ : BufTy).Contents (Elt F) → (⟨S4096x256, .f32⟩ : BufTy).Contents (Elt F)),
    binary main_v15 main_v12 main_v16 (mulf : (⟨S4096x256, .f32⟩ : BufTy).Contents (Elt F) → (⟨S4096x256, .f32⟩ : BufTy).Contents (Elt F) → (⟨S4096x256, .f32⟩ : BufTy).Contents (Elt F)),
    ternary main_v14 main_v12 main_v16 main_v17 select,
    binary main_v17 main_arg5 main_v18 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg6 main_v19 (broadcastInDim S1x256 ![1] bcast_S256_S1x256_1 : (⟨S256, .f32⟩ : BufTy).Contents (Elt F) → (⟨S1x256, .f32⟩ : BufTy).Contents (Elt F)),
    unary main_v19 main_v20 (broadcastInDim S4096x256 ![0, 1] bcast_S1x256_S4096x256_0_1 : (⟨S1x256, .f32⟩ : BufTy).Contents (Elt F) → (⟨S4096x256, .f32⟩ : BufTy).Contents (Elt F)),
    binary main_v18 main_v20 main_v21 (addf : (⟨S4096x256, .f32⟩ : BufTy).Contents (Elt F) → (⟨S4096x256, .f32⟩ : BufTy).Contents (Elt F) → (⟨S4096x256, .f32⟩ : BufTy).Contents (Elt F)),
    binary main_arg7 main_arg7 main_v22 (mulf : (⟨S8192x64, .f32⟩ : BufTy).Contents (Elt F) → (⟨S8192x64, .f32⟩ : BufTy).Contents (Elt F) → (⟨S8192x64, .f32⟩ : BufTy).Contents (Elt F)),
    nullary main_cst_3 (constant S_ .f32 0x00000000#32),
    binary main_v22 main_cst_3 main_v23 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v21 main_v24 ((extractStridedSlice S4096x64 ![0, 0] · slices_S4096x256_S4096x64_0_0) : (⟨S4096x256, .f32⟩ : BufTy).Contents (Elt F) → (⟨S4096x64, .f32⟩ : BufTy).Contents (Elt F)),
    binary main_v24 main_v24 main_v25 (mulf : (⟨S4096x64, .f32⟩ : BufTy).Contents (Elt F) → (⟨S4096x64, .f32⟩ : BufTy).Contents (Elt F) → (⟨S4096x64, .f32⟩ : BufTy).Contents (Elt F)),
    nullary main_cst_4 (constant S_ .f32 0x00000000#32),
    binary main_v25 main_cst_4 main_v26 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v26 main_v27 (broadcastInDim S4096x1 ![0] bcast_S4096_S4096x1_0 : (⟨S4096, .f32⟩ : BufTy).Contents (Elt F) → (⟨S4096x1, .f32⟩ : BufTy).Contents (Elt F)),
    unary main_v23 main_v28 (broadcastInDim S1x8192 ![1] bcast_S8192_S1x8192_1 : (⟨S8192, .f32⟩ : BufTy).Contents (Elt F) → (⟨S1x8192, .f32⟩ : BufTy).Contents (Elt F)),
    unary main_v27 main_v29 (broadcastInDim S4096x8192 ![0, 1] bcast_S4096x1_S4096x8192_0_1 : (⟨S4096x1, .f32⟩ : BufTy).Contents (Elt F) → (⟨S4096x8192, .f32⟩ : BufTy).Contents (Elt F)),
    unary main_v28 main_v30 (broadcastInDim S4096x8192 ![0, 1] bcast_S1x8192_S4096x8192_0_1 : (⟨S1x8192, .f32⟩ : BufTy).Contents (Elt F) → (⟨S4096x8192, .f32⟩ : BufTy).Contents (Elt F)),
    binary main_v29 main_v30 main_v31 (addf : (⟨S4096x8192, .f32⟩ : BufTy).Contents (Elt F) → (⟨S4096x8192, .f32⟩ : BufTy).Contents (Elt F) → (⟨S4096x8192, .f32⟩ : BufTy).Contents (Elt F)),
    unary main_arg7 main_v32 ((transpose S64x8192 [1, 0] · transposes_S8192x64_S64x8192_1_0) : (⟨S8192x64, .f32⟩ : BufTy).Contents (Elt F) → (⟨S64x8192, .f32⟩ : BufTy).Contents (Elt F)),
    binary main_v24 main_v32 main_v33 ((fun l r => Host.dotGeneral dot_S4096x64_S64x8192_S4096x8192_1_0_0_1_n_n none l r) : (⟨S4096x64, .f32⟩ : BufTy).Contents (Elt F) → (⟨S64x8192, .f32⟩ : BufTy).Contents (Elt F) → (⟨S4096x8192, .f32⟩ : BufTy).Contents (Elt F)),
    nullary main_cst_5 (constant S_ .f32 0x40000000#32),
    unary main_cst_5 main_v34 (broadcastInDim S4096x8192 ![] bcast_S_S4096x8192 : (⟨S_, .f32⟩ : BufTy).Contents (Elt F) → (⟨S4096x8192, .f32⟩ : BufTy).Contents (Elt F)),
    binary main_v34 main_v33 main_v35 (mulf : (⟨S4096x8192, .f32⟩ : BufTy).Contents (Elt F) → (⟨S4096x8192, .f32⟩ : BufTy).Contents (Elt F) → (⟨S4096x8192, .f32⟩ : BufTy).Contents (Elt F)),
    binary main_v31 main_v35 main_v36 (subf : (⟨S4096x8192, .f32⟩ : BufTy).Contents (Elt F) → (⟨S4096x8192, .f32⟩ : BufTy).Contents (Elt F) → (⟨S4096x8192, .f32⟩ : BufTy).Contents (Elt F)),
    nullary main_call2_v0 (iotaInDim S4096x8192 32 1),
    nullary main_call2_cst (constant S_ .f32 0x7F800000#32),
    nullary main_call2_c (constantI S_ 32 0#32),
    quaternary main_v36 main_call2_v0 main_call2_cst main_call2_c main_call2_v1_0 (fun x y u v j => (Host.argReduce reducer_argmin_f32_i32 x y u v reducesTo_S4096x8192_S4096_d1 h_S_ j).1),
    quaternary main_v36 main_call2_v0 main_call2_cst main_call2_c main_v37 (fun x y u v j => (Host.argReduce reducer_argmin_f32_i32 x y u v reducesTo_S4096x8192_S4096_d1 h_S_ j).2),
    unary main_v21 main_v38 ((extractStridedSlice S4096x64 ![0, 64] · slices_S4096x256_S4096x64_0_64) : (⟨S4096x256, .f32⟩ : BufTy).Contents (Elt F) → (⟨S4096x64, .f32⟩ : BufTy).Contents (Elt F)),
    binary main_v38 main_v38 main_v39 (mulf : (⟨S4096x64, .f32⟩ : BufTy).Contents (Elt F) → (⟨S4096x64, .f32⟩ : BufTy).Contents (Elt F) → (⟨S4096x64, .f32⟩ : BufTy).Contents (Elt F)),
    nullary main_cst_6 (constant S_ .f32 0x00000000#32),
    binary main_v39 main_cst_6 main_v40 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v40 main_v41 (broadcastInDim S4096x1 ![0] bcast_S4096_S4096x1_0 : (⟨S4096, .f32⟩ : BufTy).Contents (Elt F) → (⟨S4096x1, .f32⟩ : BufTy).Contents (Elt F)),
    unary main_v23 main_v42 (broadcastInDim S1x8192 ![1] bcast_S8192_S1x8192_1 : (⟨S8192, .f32⟩ : BufTy).Contents (Elt F) → (⟨S1x8192, .f32⟩ : BufTy).Contents (Elt F)),
    unary main_v41 main_v43 (broadcastInDim S4096x8192 ![0, 1] bcast_S4096x1_S4096x8192_0_1 : (⟨S4096x1, .f32⟩ : BufTy).Contents (Elt F) → (⟨S4096x8192, .f32⟩ : BufTy).Contents (Elt F)),
    unary main_v42 main_v44 (broadcastInDim S4096x8192 ![0, 1] bcast_S1x8192_S4096x8192_0_1 : (⟨S1x8192, .f32⟩ : BufTy).Contents (Elt F) → (⟨S4096x8192, .f32⟩ : BufTy).Contents (Elt F)),
    binary main_v43 main_v44 main_v45 (addf : (⟨S4096x8192, .f32⟩ : BufTy).Contents (Elt F) → (⟨S4096x8192, .f32⟩ : BufTy).Contents (Elt F) → (⟨S4096x8192, .f32⟩ : BufTy).Contents (Elt F)),
    unary main_arg7 main_v46 ((transpose S64x8192 [1, 0] · transposes_S8192x64_S64x8192_1_0) : (⟨S8192x64, .f32⟩ : BufTy).Contents (Elt F) → (⟨S64x8192, .f32⟩ : BufTy).Contents (Elt F)),
    binary main_v38 main_v46 main_v47 ((fun l r => Host.dotGeneral dot_S4096x64_S64x8192_S4096x8192_1_0_0_1_n_n none l r) : (⟨S4096x64, .f32⟩ : BufTy).Contents (Elt F) → (⟨S64x8192, .f32⟩ : BufTy).Contents (Elt F) → (⟨S4096x8192, .f32⟩ : BufTy).Contents (Elt F)),
    nullary main_cst_7 (constant S_ .f32 0x40000000#32),
    unary main_cst_7 main_v48 (broadcastInDim S4096x8192 ![] bcast_S_S4096x8192 : (⟨S_, .f32⟩ : BufTy).Contents (Elt F) → (⟨S4096x8192, .f32⟩ : BufTy).Contents (Elt F)),
    binary main_v48 main_v47 main_v49 (mulf : (⟨S4096x8192, .f32⟩ : BufTy).Contents (Elt F) → (⟨S4096x8192, .f32⟩ : BufTy).Contents (Elt F) → (⟨S4096x8192, .f32⟩ : BufTy).Contents (Elt F)),
    binary main_v45 main_v49 main_v50 (subf : (⟨S4096x8192, .f32⟩ : BufTy).Contents (Elt F) → (⟨S4096x8192, .f32⟩ : BufTy).Contents (Elt F) → (⟨S4096x8192, .f32⟩ : BufTy).Contents (Elt F)),
    nullary main_call3_v0 (iotaInDim S4096x8192 32 1),
    nullary main_call3_cst (constant S_ .f32 0x7F800000#32),
    nullary main_call3_c (constantI S_ 32 0#32),
    quaternary main_v50 main_call3_v0 main_call3_cst main_call3_c main_call3_v1_0 (fun x y u v j => (Host.argReduce reducer_argmin_f32_i32 x y u v reducesTo_S4096x8192_S4096_d1 h_S_ j).1),
    quaternary main_v50 main_call3_v0 main_call3_cst main_call3_c main_v51 (fun x y u v j => (Host.argReduce reducer_argmin_f32_i32 x y u v reducesTo_S4096x8192_S4096_d1 h_S_ j).2),
    unary main_v21 main_v52 ((extractStridedSlice S4096x64 ![0, 128] · slices_S4096x256_S4096x64_0_128) : (⟨S4096x256, .f32⟩ : BufTy).Contents (Elt F) → (⟨S4096x64, .f32⟩ : BufTy).Contents (Elt F)),
    binary main_v52 main_v52 main_v53 (mulf : (⟨S4096x64, .f32⟩ : BufTy).Contents (Elt F) → (⟨S4096x64, .f32⟩ : BufTy).Contents (Elt F) → (⟨S4096x64, .f32⟩ : BufTy).Contents (Elt F)),
    nullary main_cst_8 (constant S_ .f32 0x00000000#32),
    binary main_v53 main_cst_8 main_v54 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v54 main_v55 (broadcastInDim S4096x1 ![0] bcast_S4096_S4096x1_0 : (⟨S4096, .f32⟩ : BufTy).Contents (Elt F) → (⟨S4096x1, .f32⟩ : BufTy).Contents (Elt F)),
    unary main_v23 main_v56 (broadcastInDim S1x8192 ![1] bcast_S8192_S1x8192_1 : (⟨S8192, .f32⟩ : BufTy).Contents (Elt F) → (⟨S1x8192, .f32⟩ : BufTy).Contents (Elt F)),
    unary main_v55 main_v57 (broadcastInDim S4096x8192 ![0, 1] bcast_S4096x1_S4096x8192_0_1 : (⟨S4096x1, .f32⟩ : BufTy).Contents (Elt F) → (⟨S4096x8192, .f32⟩ : BufTy).Contents (Elt F)),
    unary main_v56 main_v58 (broadcastInDim S4096x8192 ![0, 1] bcast_S1x8192_S4096x8192_0_1 : (⟨S1x8192, .f32⟩ : BufTy).Contents (Elt F) → (⟨S4096x8192, .f32⟩ : BufTy).Contents (Elt F)),
    binary main_v57 main_v58 main_v59 (addf : (⟨S4096x8192, .f32⟩ : BufTy).Contents (Elt F) → (⟨S4096x8192, .f32⟩ : BufTy).Contents (Elt F) → (⟨S4096x8192, .f32⟩ : BufTy).Contents (Elt F)),
    unary main_arg7 main_v60 ((transpose S64x8192 [1, 0] · transposes_S8192x64_S64x8192_1_0) : (⟨S8192x64, .f32⟩ : BufTy).Contents (Elt F) → (⟨S64x8192, .f32⟩ : BufTy).Contents (Elt F)),
    binary main_v52 main_v60 main_v61 ((fun l r => Host.dotGeneral dot_S4096x64_S64x8192_S4096x8192_1_0_0_1_n_n none l r) : (⟨S4096x64, .f32⟩ : BufTy).Contents (Elt F) → (⟨S64x8192, .f32⟩ : BufTy).Contents (Elt F) → (⟨S4096x8192, .f32⟩ : BufTy).Contents (Elt F)),
    nullary main_cst_9 (constant S_ .f32 0x40000000#32),
    unary main_cst_9 main_v62 (broadcastInDim S4096x8192 ![] bcast_S_S4096x8192 : (⟨S_, .f32⟩ : BufTy).Contents (Elt F) → (⟨S4096x8192, .f32⟩ : BufTy).Contents (Elt F)),
    binary main_v62 main_v61 main_v63 (mulf : (⟨S4096x8192, .f32⟩ : BufTy).Contents (Elt F) → (⟨S4096x8192, .f32⟩ : BufTy).Contents (Elt F) → (⟨S4096x8192, .f32⟩ : BufTy).Contents (Elt F)),
    binary main_v59 main_v63 main_v64 (subf : (⟨S4096x8192, .f32⟩ : BufTy).Contents (Elt F) → (⟨S4096x8192, .f32⟩ : BufTy).Contents (Elt F) → (⟨S4096x8192, .f32⟩ : BufTy).Contents (Elt F)),
    nullary main_call4_v0 (iotaInDim S4096x8192 32 1),
    nullary main_call4_cst (constant S_ .f32 0x7F800000#32),
    nullary main_call4_c (constantI S_ 32 0#32),
    quaternary main_v64 main_call4_v0 main_call4_cst main_call4_c main_call4_v1_0 (fun x y u v j => (Host.argReduce reducer_argmin_f32_i32 x y u v reducesTo_S4096x8192_S4096_d1 h_S_ j).1),
    quaternary main_v64 main_call4_v0 main_call4_cst main_call4_c main_v65 (fun x y u v j => (Host.argReduce reducer_argmin_f32_i32 x y u v reducesTo_S4096x8192_S4096_d1 h_S_ j).2),
    unary main_v21 main_v66 ((extractStridedSlice S4096x64 ![0, 192] · slices_S4096x256_S4096x64_0_192) : (⟨S4096x256, .f32⟩ : BufTy).Contents (Elt F) → (⟨S4096x64, .f32⟩ : BufTy).Contents (Elt F)),
    binary main_v66 main_v66 main_v67 (mulf : (⟨S4096x64, .f32⟩ : BufTy).Contents (Elt F) → (⟨S4096x64, .f32⟩ : BufTy).Contents (Elt F) → (⟨S4096x64, .f32⟩ : BufTy).Contents (Elt F)),
    nullary main_cst_10 (constant S_ .f32 0x00000000#32),
    binary main_v67 main_cst_10 main_v68 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v68 main_v69 (broadcastInDim S4096x1 ![0] bcast_S4096_S4096x1_0 : (⟨S4096, .f32⟩ : BufTy).Contents (Elt F) → (⟨S4096x1, .f32⟩ : BufTy).Contents (Elt F)),
    unary main_v23 main_v70 (broadcastInDim S1x8192 ![1] bcast_S8192_S1x8192_1 : (⟨S8192, .f32⟩ : BufTy).Contents (Elt F) → (⟨S1x8192, .f32⟩ : BufTy).Contents (Elt F)),
    unary main_v69 main_v71 (broadcastInDim S4096x8192 ![0, 1] bcast_S4096x1_S4096x8192_0_1 : (⟨S4096x1, .f32⟩ : BufTy).Contents (Elt F) → (⟨S4096x8192, .f32⟩ : BufTy).Contents (Elt F)),
    unary main_v70 main_v72 (broadcastInDim S4096x8192 ![0, 1] bcast_S1x8192_S4096x8192_0_1 : (⟨S1x8192, .f32⟩ : BufTy).Contents (Elt F) → (⟨S4096x8192, .f32⟩ : BufTy).Contents (Elt F)),
    binary main_v71 main_v72 main_v73 (addf : (⟨S4096x8192, .f32⟩ : BufTy).Contents (Elt F) → (⟨S4096x8192, .f32⟩ : BufTy).Contents (Elt F) → (⟨S4096x8192, .f32⟩ : BufTy).Contents (Elt F)),
    unary main_arg7 main_v74 ((transpose S64x8192 [1, 0] · transposes_S8192x64_S64x8192_1_0) : (⟨S8192x64, .f32⟩ : BufTy).Contents (Elt F) → (⟨S64x8192, .f32⟩ : BufTy).Contents (Elt F)),
    binary main_v66 main_v74 main_v75 ((fun l r => Host.dotGeneral dot_S4096x64_S64x8192_S4096x8192_1_0_0_1_n_n none l r) : (⟨S4096x64, .f32⟩ : BufTy).Contents (Elt F) → (⟨S64x8192, .f32⟩ : BufTy).Contents (Elt F) → (⟨S4096x8192, .f32⟩ : BufTy).Contents (Elt F)),
    nullary main_cst_11 (constant S_ .f32 0x40000000#32),
    unary main_cst_11 main_v76 (broadcastInDim S4096x8192 ![] bcast_S_S4096x8192 : (⟨S_, .f32⟩ : BufTy).Contents (Elt F) → (⟨S4096x8192, .f32⟩ : BufTy).Contents (Elt F)),
    binary main_v76 main_v75 main_v77 (mulf : (⟨S4096x8192, .f32⟩ : BufTy).Contents (Elt F) → (⟨S4096x8192, .f32⟩ : BufTy).Contents (Elt F) → (⟨S4096x8192, .f32⟩ : BufTy).Contents (Elt F)),
    binary main_v73 main_v77 main_v78 (subf : (⟨S4096x8192, .f32⟩ : BufTy).Contents (Elt F) → (⟨S4096x8192, .f32⟩ : BufTy).Contents (Elt F) → (⟨S4096x8192, .f32⟩ : BufTy).Contents (Elt F)),
    nullary main_call5_v0 (iotaInDim S4096x8192 32 1),
    nullary main_call5_cst (constant S_ .f32 0x7F800000#32),
    nullary main_call5_c (constantI S_ 32 0#32),
    quaternary main_v78 main_call5_v0 main_call5_cst main_call5_c main_call5_v1_0 (fun x y u v j => (Host.argReduce reducer_argmin_f32_i32 x y u v reducesTo_S4096x8192_S4096_d1 h_S_ j).1),
    quaternary main_v78 main_call5_v0 main_call5_cst main_call5_c main_v79 (fun x y u v j => (Host.argReduce reducer_argmin_f32_i32 x y u v reducesTo_S4096x8192_S4096_d1 h_S_ j).2),
    unary main_v37 main_v80 (broadcastInDim S4096x1 ![0] bcast_S4096_S4096x1_0 : (⟨S4096, .i32⟩ : BufTy).Contents (Elt F) → (⟨S4096x1, .i32⟩ : BufTy).Contents (Elt F)),
    unary main_v51 main_v81 (broadcastInDim S4096x1 ![0] bcast_S4096_S4096x1_0 : (⟨S4096, .i32⟩ : BufTy).Contents (Elt F) → (⟨S4096x1, .i32⟩ : BufTy).Contents (Elt F)),
    unary main_v65 main_v82 (broadcastInDim S4096x1 ![0] bcast_S4096_S4096x1_0 : (⟨S4096, .i32⟩ : BufTy).Contents (Elt F) → (⟨S4096x1, .i32⟩ : BufTy).Contents (Elt F)),
    unary main_v79 main_v83 (broadcastInDim S4096x1 ![0] bcast_S4096_S4096x1_0 : (⟨S4096, .i32⟩ : BufTy).Contents (Elt F) → (⟨S4096x1, .i32⟩ : BufTy).Contents (Elt F)),
    nary ![main_v80, main_v81, main_v82, main_v83] main_v84 (fun u => (concatenate S4096x4 1 [⟨S4096x1, (u 0 : (⟨S4096x1, .i32⟩ : BufTy).Contents (Elt F))⟩, ⟨S4096x1, (u 1 : (⟨S4096x1, .i32⟩ : BufTy).Contents (Elt F))⟩, ⟨S4096x1, (u 2 : (⟨S4096x1, .i32⟩ : BufTy).Contents (Elt F))⟩, ⟨S4096x1, (u 3 : (⟨S4096x1, .i32⟩ : BufTy).Contents (Elt F))⟩] concatenates_S4096x1_S4096x1_S4096x1_S4096x1_S4096x4_d1 : (⟨S4096x4, .i32⟩ : BufTy).Contents (Elt F))) ]

set_option maxHeartbeats 4000000 in
/-- The reference program is that straight line. -/
theorem main_eq (c : Dev nD) : main (F := F) c = seq ops := by
  rfl

/-- The embeddings of the arguments held by `V`. -/
abbrev embOf (V : Valuation τ sig (Elt F)) : FVec F S4096x256 .f32 :=
  emb (V (main_arg0 : DevRef τ sig)) (V (main_arg1 : DevRef τ sig)) (V (main_arg2 : DevRef τ sig)) (V (main_arg3 : DevRef τ sig))
    (V (main_arg4 : DevRef τ sig)) (V (main_arg5 : DevRef τ sig)) (V (main_arg6 : DevRef τ sig))

set_option maxHeartbeats 4000000 in
/-- The first result's buffer ends at the embeddings. -/
theorem emb_eq (V : Valuation τ sig (Elt F)) : after ops V (main_v21 : DevRef τ sig) = embOf V := by
  after_reads_simp
  rfl

set_option maxHeartbeats 4000000 in
/-- Before the last operation, the index column of split 0. -/
theorem col0_eq (V : Valuation τ sig (Elt F)) :
    upto ops V 113 (main_v80 : DevRef τ sig) = col (argmin (dist (split0 (embOf V)) (V (main_arg7 : DevRef τ sig)))) := by
  after_reads_simp
  rfl

set_option maxHeartbeats 4000000 in
/-- Before the last operation, the index column of split 1. -/
theorem col1_eq (V : Valuation τ sig (Elt F)) :
    upto ops V 113 (main_v81 : DevRef τ sig) = col (argmin (dist (split1 (embOf V)) (V (main_arg7 : DevRef τ sig)))) := by
  after_reads_simp
  rfl

set_option maxHeartbeats 4000000 in
/-- Before the last operation, the index column of split 2. -/
theorem col2_eq (V : Valuation τ sig (Elt F)) :
    upto ops V 113 (main_v82 : DevRef τ sig) = col (argmin (dist (split2 (embOf V)) (V (main_arg7 : DevRef τ sig)))) := by
  after_reads_simp
  rfl

set_option maxHeartbeats 4000000 in
/-- Before the last operation, the index column of split 3. -/
theorem col3_eq (V : Valuation τ sig (Elt F)) :
    upto ops V 113 (main_v83 : DevRef τ sig) = col (argmin (dist (split3 (embOf V)) (V (main_arg7 : DevRef τ sig)))) := by
  after_reads_simp
  rfl

/-- The last operation's four operands are the four columns. -/
theorem beside_read (W : Valuation τ sig (Elt F)) :
    concatenate S4096x4 1
      [⟨S4096x1, W (Proc.devRef .tc (![main_v80, main_v81, main_v82, main_v83] 0))⟩,
        ⟨S4096x1, W (Proc.devRef .tc (![main_v80, main_v81, main_v82, main_v83] 1))⟩,
        ⟨S4096x1, W (Proc.devRef .tc (![main_v80, main_v81, main_v82, main_v83] 2))⟩,
        ⟨S4096x1, W (Proc.devRef .tc (![main_v80, main_v81, main_v82, main_v83] 3))⟩]
      concatenates_S4096x1_S4096x1_S4096x1_S4096x1_S4096x4_d1
    = beside (W (main_v80 : DevRef τ sig)) (W (main_v81 : DevRef τ sig)) (W (main_v82 : DevRef τ sig)) (W (main_v83 : DevRef τ sig)) := rfl

/-- The second result's buffer ends at the indices. -/
theorem indices_eq (V : Valuation τ sig (Elt F)) :
    after ops V (main_v84 : DevRef τ sig) = indices (embOf V) (V (main_arg7 : DevRef τ sig)) := by
  after_reads_simp
  refine (beside_read (upto ops V 113)).trans ?_
  rw [col0_eq, col1_eq, col2_eq, col3_eq]
  rfl

/-- No operation writes an argument. -/
theorem arg_eq (V : Valuation τ sig (Elt F)) (b : Ref sig .tc)
    (hb : b ∈ [main_arg0, main_arg1, main_arg2, main_arg3, main_arg4, main_arg5, main_arg6, main_arg7]) :
    after ops V (b : DevRef τ sig) = V (b : DevRef τ sig) := by
  simp only [List.mem_cons, List.not_mem_nil, or_false] at hb
  rcases hb with rfl | rfl | rfl | rfl | rfl | rfl | rfl | rfl <;> after_reads_simp

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by simp

/-- From any memory with zero counters the reference program ends; its results are the functions above of the arguments,
    and the arguments are unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD,
        r.2.mem ((c.tc : Thread nD τ).loc main_v21) = embOf (launchContents m c)
        ∧ r.2.mem ((c.tc : Thread nD τ).loc main_v84) = indices (embOf (launchContents m c)) (launchContents m c (main_arg7 : DevRef τ sig))
        ∧ ∀ b ∈ [main_arg0, main_arg1, main_arg2, main_arg3, main_arg4, main_arg5, main_arg6, main_arg7],
            r.2.mem ((c.tc : Thread nD τ).loc b) = m ((c.tc : Thread nD τ).loc b) :=
  (θ_run defs _ _).mono (fun _ h c => ⟨(h c main_v21).trans (emb_eq _), (h c main_v84).trans (indices_eq _),
      fun b hb => (h c b).trans (arg_eq _ b hb)⟩)
    (run_seq scopedRefs_eq scopedSems_eq defs main (fun _ => ops) main_eq (fun _ => ops_sub) m ρ)

end Cert.Vq.Ref

end
-- ==== Proof.Vq.Finite.lean ====
/- Where the precondition holds every argument is a real number. -/
module

public import proofs.«01_k».proof.Pre_finite_args
public import proofs.«01_k».proof.Proof.Vq.Real

@[expose] public section

noncomputable section

namespace Cert.Vq

open Idealize.ShloMosaic

theorem re_of_abs_lt (x : EReal) (h : max x (-x) < ⊤) : Re x := by
  induction x using EReal.rec with
  | bot => simp at h
  | top => simp at h
  | coe r => exact ⟨r, rfl⟩

/-- An entry whose absolute value compares below plus infinity is real. -/
theorem re_of_finite {s : Shape} (x : FVec Ideal s .f32) (h : (⟨0, ![]⟩ : Shape).BroadcastsInDim s (![] : Fin 0 → Fin s.rank)) (i : s.Idx)
    (hx : cmpf .olt (Host.absf x) (broadcastInDim s ![] h (constant (F := Ideal) ⟨0, ![]⟩ .f32 0x7F800000#32)) i = 1#1) : Re (x i) := by
  apply re_of_abs_lt
  rw [← ofBits_top]
  pointwise at hx
  rw [Ideal.absf_def] at hx
  by_contra hn
  rw [decide_eq_false hn] at hx
  exact absurd hx (by decide)

section
variable [Cert.Pre_finite_args.Facts]
open Cert.Pre_finite_args Cert.Pre_finite_args.Facts

/-- Where the eight masks of `finite_args` are all ones, every entry of every argument is real. -/
theorem finite_real (x : FVec Ideal S4096x768 .f32) (W1 : FVec Ideal S768x512 .f32) (b1 : FVec Ideal S512 .f32)
    (W2 : FVec Ideal S512x256 .f32) (b2 : FVec Ideal S256 .f32) (W3 : FVec Ideal S256x256 .f32) (b3 : FVec Ideal S256 .f32)
    (cb : FVec Ideal S8192x64 .f32)
    (h : (fn x W1 b1 W2 b2 W3 b3 cb).1 = (fun _ => 1#1) ∧ (fn x W1 b1 W2 b2 W3 b3 cb).2.1 = (fun _ => 1#1)
      ∧ (fn x W1 b1 W2 b2 W3 b3 cb).2.2.1 = (fun _ => 1#1) ∧ (fn x W1 b1 W2 b2 W3 b3 cb).2.2.2.1 = (fun _ => 1#1)
      ∧ (fn x W1 b1 W2 b2 W3 b3 cb).2.2.2.2.1 = (fun _ => 1#1) ∧ (fn x W1 b1 W2 b2 W3 b3 cb).2.2.2.2.2.1 = (fun _ => 1#1)
      ∧ (fn x W1 b1 W2 b2 W3 b3 cb).2.2.2.2.2.2.1 = (fun _ => 1#1) ∧ (fn x W1 b1 W2 b2 W3 b3 cb).2.2.2.2.2.2.2 = (fun _ => 1#1)) :
    (∀ i, Re (x i)) ∧ (∀ i, Re (W1 i)) ∧ (∀ i, Re (b1 i)) ∧ (∀ i, Re (W2 i)) ∧ (∀ i, Re (b2 i)) ∧ (∀ i, Re (W3 i))
      ∧ (∀ i, Re (b3 i)) ∧ ∀ i, Re (cb i) := by
  unfold fn fn_part1 at h
  obtain ⟨h0, h1, h2, h3, h4, h5, h6, h7⟩ := h
  exact ⟨fun i => re_of_finite x bcast_S_S4096x768 i (congrFun h0 i), fun i => re_of_finite W1 bcast_S_S768x512 i (congrFun h1 i),
    fun i => re_of_finite b1 bcast_S_S512 i (congrFun h2 i), fun i => re_of_finite W2 bcast_S_S512x256 i (congrFun h3 i),
    fun i => re_of_finite b2 bcast_S_S256 i (congrFun h4 i), fun i => re_of_finite W3 bcast_S_S256x256 i (congrFun h5 i),
    fun i => re_of_finite b3 bcast_S_S256 i (congrFun h6 i), fun i => re_of_finite cb bcast_S_S8192x64 i (congrFun h7 i)⟩

end

end Cert.Vq

end
-- ==== Proof.lean ====
/- The certificate: the fused encoder and quantiser runs, leaves its arguments alone and its counters at zero, and
   computes the reference's embeddings on all arguments and the reference's indices on finite ones. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_args
public import proofs.«01_k».proof.Proof.Gen.On_embeddings
public import proofs.«01_k».proof.Proof.Vq.Run
public import proofs.«01_k».proof.Proof.Vq.RefRun
public import proofs.«01_k».proof.Proof.Vq.Finite
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.ShloMosaic.StableHlo Idealize.SL.Sem

attribute [local instance] Cert.Kernel.Gen.facts Cert.KernelIdeal.Gen.facts Cert.ReferenceIdeal.Gen.facts
  Cert.Pre_finite_args.Gen.facts Cert.On_embeddings.Gen.facts

/-! ## The reference program's run -/

section
open Cert.ReferenceIdeal

/-- The reference program ends with its two results and with every argument unchanged, argument by argument. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21) = Vq.Ref.embOf (launchContents m c)
      ∧ r.2.mem ((c.tc : Thread nD τ).loc main_v84)
        = Vq.Ref.indices (Vq.Ref.embOf (launchContents m c)) (launchContents m c (main_arg7 : DevRef τ sig))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have k := (h c).2.2
    ⟨(h c).1, (h c).2.1, k _ (by decide), k _ (by decide), k _ (by decide), k _ (by decide), k _ (by decide), k _ (by decide),
      k _ (by decide), k _ (by decide)⟩) (Vq.Ref.run_main m ρ)

/-- The reference program's frame: it ends, its arguments unchanged, its counters at zero. -/
theorem ref_frame : Cert.quiescent_ReferenceIdeal := fun m ρ _ =>
  (θ_run defs _ _).mono (fun r h => ⟨fun c => (h c).2.2, sem_eq_zero_of_no_sems (by decide) r.2⟩) (ref_run m ρ)

/-- The embeddings of equal arguments are equal. -/
theorem emb_congr {x x' : FVec Ideal S4096x768 .f32} {W1 W1' : FVec Ideal S768x512 .f32} {b1 b1' : FVec Ideal S512 .f32}
    {W2 W2' : FVec Ideal S512x256 .f32} {b2 b2' : FVec Ideal S256 .f32} {W3 W3' : FVec Ideal S256x256 .f32}
    {b3 b3' : FVec Ideal S256 .f32} (h0 : x = x') (h1 : W1 = W1') (h2 : b1 = b1') (h3 : W2 = W2') (h4 : b2 = b2')
    (h5 : W3 = W3') (h6 : b3 = b3') : Vq.Ref.emb x W1 b1 W2 b2 W3 b3 = Vq.Ref.emb x' W1' b1' W2' b2' W3' b3' := by
  subst h0 h1 h2 h3 h4 h5 h6; rfl

/-- The indices of equal embeddings and equal code vectors are equal. -/
theorem indices_congr {z z' : FVec Ideal S4096x256 .f32} {cb cb' : FVec Ideal S8192x64 .f32} (h : z = z') (h7 : cb = cb') :
    Vq.Ref.indices z cb = Vq.Ref.indices z' cb' := by
  subst h h7; rfl

end

/-! ## The two value claims -/

/-- Both results, on finite arguments. -/
theorem both_results : Cert.algebraic_KernelIdeal_ReferenceIdeal_pre_finite_args := by
  intro m ρ m' ρ' hpre hagree
  have hemb : ∀ c, Vq.Ref.embOf (launchContents m' c) = Vq.embArgs m c := fun c =>
    have ⟨e0, e1, e2, e3, e4, e5, e6, _⟩ := hagree c
    emb_congr e0 e1 e2 e3 e4 e5 e6
  have hidx : ∀ c, Vq.Ref.indices (Vq.Ref.embOf (launchContents m' c))
      (launchContents m' c (Cert.ReferenceIdeal.main_arg7 : DevRef Cert.ReferenceIdeal.τ Cert.ReferenceIdeal.sig)) = Vq.indexOut m c :=
    fun c => (indices_congr (hemb c) (hagree c).2.2.2.2.2.2.2).trans (Vq.indexOut_eq m c (Vq.finite_real _ _ _ _ _ _ _ _ (hpre c))).symm
  exact ⟨fun c => Vq.embArgs m c, fun c => Vq.indexOut m c,
    (θ_run Cert.KernelIdeal.defs _ _).mono (fun _ h c => ⟨(h c).2.1, (h c).2.2, (h c).1⟩) (Vq.run m ρ),
    (θ_run Cert.ReferenceIdeal.defs _ _).mono (fun _ h c => ⟨(h c).1.trans (hemb c), (h c).2.1.trans (hidx c), (h c).2.2⟩)
      (ref_run m' ρ')⟩

/-- The mask `embeddings` selects no index. -/
theorem mask_index (x : FVec Ideal Cert.On_embeddings.S4096x768 .f32) (W1 : FVec Ideal Cert.On_embeddings.S768x512 .f32)
    (b1 : FVec Ideal Cert.On_embeddings.S512 .f32) (W2 : FVec Ideal Cert.On_embeddings.S512x256 .f32)
    (b2 : FVec Ideal Cert.On_embeddings.S256 .f32) (W3 : FVec Ideal Cert.On_embeddings.S256x256 .f32)
    (b3 : FVec Ideal Cert.On_embeddings.S256 .f32) (cb : FVec Ideal Cert.On_embeddings.S8192x64 .f32)
    (i : Cert.On_embeddings.S4096x4.Idx) : (Cert.On_embeddings.fn x W1 b1 W2 b2 W3 b3 cb).2 i ≠ 1#1 := by
  unfold Cert.On_embeddings.fn
  intro h
  pointwise at h
  exact absurd h (by decide)

/-- The embeddings, whatever the arguments. -/
theorem embeddings_everywhere : Cert.algebraic_KernelIdeal_ReferenceIdeal_on_embeddings := by
  intro m ρ m' ρ' _ hagree
  have hemb : ∀ c, Vq.Ref.embOf (launchContents m' c) = Vq.embArgs m c := fun c =>
    have ⟨e0, e1, e2, e3, e4, e5, e6, _⟩ := hagree c
    emb_congr e0 e1 e2 e3 e4 e5 e6
  exact ⟨fun c => Vq.embArgs m c, fun c => Vq.indexOut m c,
    (θ_run Cert.KernelIdeal.defs _ _).mono (fun _ h c => ⟨fun i _ => congrFun (h c).2.1 i,
      fun i hi => absurd hi (mask_index _ _ _ _ _ _ _ _ i), (h c).1⟩) (Vq.run m ρ),
    (θ_run Cert.ReferenceIdeal.defs _ _).mono (fun _ h c => ⟨fun i _ => congrFun ((h c).1.trans (hemb c)) i,
      fun i hi => absurd hi (mask_index _ _ _ _ _ _ _ _ i), (h c).2.2⟩) (ref_run m' ρ')⟩

/-- Everything claimed. -/
theorem claim : Cert.Claim :=
  ⟨Cert.Kernel.Gen.facts, Cert.KernelIdeal.Gen.facts, Cert.ReferenceIdeal.Gen.facts, Cert.Pre_finite_args.Gen.facts,
    Cert.On_embeddings.Gen.facts, fun m ρ _ => Cert.Kernel.Gen.frame m ρ, fun m ρ _ => Cert.KernelIdeal.Gen.frame m ρ,
    fun m ρ _ => Cert.KernelIdeal.Gen.frame m ρ, ref_frame, fun m ρ _ => ref_frame m ρ trivial, trivial,
    both_results, embeddings_everywhere⟩

end Cert.Proof

end
